-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x100000 : Shape := ⟨2, ![128, 100000]⟩
abbrev S32x16 : Shape := ⟨2, ![32, 16]⟩
abbrev S16 : Shape := ⟨1, ![16]⟩
abbrev S1 : Shape := ⟨1, ![1]⟩
abbrev S_ : Shape := ⟨0, ![]⟩
abbrev S1x16 : Shape := ⟨2, ![1, 16]⟩
abbrev S32x1 : Shape := ⟨2, ![32, 1]⟩
abbrev S32 : Shape := ⟨1, ![32]⟩
abbrev S96x128 : Shape := ⟨2, ![96, 128]⟩
abbrev S8x128 : Shape := ⟨2, ![8, 128]⟩
abbrev S8x512 : Shape := ⟨2, ![8, 512]⟩
abbrev S8 : Shape := ⟨1, ![8]⟩
abbrev S8x1 : Shape := ⟨2, ![8, 1]⟩
abbrev S96x1 : Shape := ⟨2, ![96, 1]⟩
abbrev S96 : Shape := ⟨1, ![96]⟩
abbrev S128 : Shape := ⟨1, ![128]⟩

abbrev nBuf : Table → Nat
  | .hbm => 8
  | .local .tc .vmem => 2
  | .local .scVector .vmem => 1
  | _ => 0

abbrev bufTy : (tb : Table) → Fin (nBuf tb) → BufTy
  | .hbm, ⟨0, _⟩ => ⟨S128x100000, .f32⟩
  | .hbm, ⟨1, _⟩ => ⟨S32x16, .f32⟩
  | .hbm, ⟨2, _⟩ => ⟨S32x1, .f32⟩
  | .hbm, ⟨3, _⟩ => ⟨S32, .f32⟩
  | .hbm, ⟨4, _⟩ => ⟨S96x128, .f32⟩
  | .hbm, ⟨5, _⟩ => ⟨S96x1, .f32⟩
  | .hbm, ⟨6, _⟩ => ⟨S96, .f32⟩
  | .hbm, ⟨7, _⟩ => ⟨S128, .f32⟩
  | .local .tc .vmem, ⟨0, _⟩ => ⟨S8x128, .f32⟩
  | .local .tc .vmem, ⟨1, _⟩ => ⟨S8x128, .f32⟩
  | .local .scVector .vmem, ⟨0, _⟩ => ⟨S16, .f32⟩
  | _, _ => ⟨S128x100000, .f32⟩

abbrev bufScoped : (cs : CoreSpace) → Fin (nBuf (.local .tc cs)) → Bool
  | .vmem, ⟨0, _⟩ => true
  | .vmem, ⟨1, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => true
  | ⟨2, _⟩ => true
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v0_scv : Ref sig .scVector := ⟨.hbm, 1, rfl⟩
abbrev cc1_stg0_0 : Ref sig .tc := ⟨.vmem, 0, rfl⟩
abbrev cc1_stg0_1 : Ref sig .tc := ⟨.vmem, 1, rfl⟩
abbrev cc0_scratch0 : Ref sig .scVector := ⟨.vmem, 0, rfl⟩
abbrev cc1_sem0_0 : DmaSem sig := 1
abbrev cc1_sem0_1 : DmaSem sig := 2
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_1 : BitVec 32 := 0#32
  let c6250_i32 : BitVec 32 := 6250#32
  let v12 : BitVec 32 := Scalar.addi c0_i32_1 c6250_i32
  let c1_i32_2 : BitVec 32 := 1#32
  ⟨c0_i32_1, v12, c1_i32_2⟩
def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_54_r0 : BitVec 32 := 0#32
  ![v1.toNat, 0]
abbrev grid1 : Pipeline.Grid := ⟨1, ![12], ![false]⟩

@[reducible] def k1_t1_loop : Scf.Loop 32 :=
  let c0_i32_0 : BitVec 32 := 0#32
  let c24_i32 : BitVec 32 := 24#32
  let v10 : BitVec 32 := Scalar.addi c0_i32_0 c24_i32
  let c1_i32 : BitVec 32 := 1#32
  ⟨c0_i32_0, v10, c1_i32⟩
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S128x100000 : Shape := ⟨2, ![128, 100000]⟩
abbrev S_ : Shape := ⟨0, ![]⟩
abbrev S1 : Shape := ⟨1, ![1]⟩
abbrev S2 : Shape := ⟨1, ![2]⟩
abbrev S128x100001 : Shape := ⟨2, ![128, 100001]⟩
abbrev S1x1 : Shape := ⟨2, ![1, 1]⟩
abbrev S128 : Shape := ⟨1, ![128]⟩

abbrev nBuf : Space → Nat
  | .hbm => 287
  | .vmem => 0
  | .smem => 0
  | _ => 0

abbrev hbmTy0_0 (i : Nat) : BufTy := match i % 128 with
  | 0 => ⟨S128x100000, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S_, .f32⟩
  | 12 => ⟨S128x100001, .f32⟩
  | 13 => ⟨S_, .f32⟩
  | 14 => ⟨S_, .f32⟩
  | 15 => ⟨S_, .f32⟩
  | 16 => ⟨S1x1, .f32⟩
  | 17 => ⟨S1x1, .f32⟩
  | 18 => ⟨S1, .i32⟩
  | 19 => ⟨S_, .i32⟩
  | 20 => ⟨S1, .i32⟩
  | 21 => ⟨S_, .i32⟩
  | 22 => ⟨S128x100001, .i64⟩
  | 23 => ⟨S128x100001, .i64⟩
  | 24 => ⟨S_, .i64⟩
  | 25 => ⟨S128x100001, .i64⟩
  | 26 => ⟨S128x100001, .i64⟩
  | 27 => ⟨S_, .i64⟩
  | 28 => ⟨S128x100001, .i64⟩
  | 29 => ⟨S128x100001, .i64⟩
  | 30 => ⟨S128x100001, .i64⟩
  | 31 => ⟨S_, .i64⟩
  | 32 => ⟨S128x100001, .i64⟩
  | 33 => ⟨S128x100001, .i64⟩
  | 34 => ⟨S128x100001, .i32⟩
  | 35 => ⟨S128x100001, .i32⟩
  | 36 => ⟨S_, .i32⟩
  | 37 => ⟨S_, .i32⟩
  | 38 => ⟨S_, .i32⟩
  | 39 => ⟨S128x100001, .i32⟩
  | 40 => ⟨S128x100001, .i32⟩
  | 41 => ⟨S128x100001, .i32⟩
  | 42 => ⟨S128x100001, .i32⟩
  | 43 => ⟨S128x100001, .i32⟩
  | 44 => ⟨S_, .i32⟩
  | 45 => ⟨S128x100001, .i32⟩
  | 46 => ⟨S128x100001, .i32⟩
  | 47 => ⟨S_, .i32⟩
  | 48 => ⟨S128x100001, .i32⟩
  | 49 => ⟨S128x100001, .i32⟩
  | 50 => ⟨S128x100001, .i32⟩
  | 51 => ⟨S128x100001, .i32⟩
  | 52 => ⟨S128x100001, .i32⟩
  | 53 => ⟨S_, .i32⟩
  | 54 => ⟨S128x100001, .i32⟩
  | 55 => ⟨S128x100001, .i32⟩
  | 56 => ⟨S_, .i32⟩
  | 57 => ⟨S128x100001, .i32⟩
  | 58 => ⟨S128x100001, .i32⟩
  | 59 => ⟨S128x100001, .i32⟩
  | 60 => ⟨S128x100001, .i32⟩
  | 61 => ⟨S128x100001, .i32⟩
  | 62 => ⟨S_, .i32⟩
  | 63 => ⟨S128x100001, .i32⟩
  | 64 => ⟨S128x100001, .i32⟩
  | 65 => ⟨S_, .i32⟩
  | 66 => ⟨S128x100001, .i32⟩
  | 67 => ⟨S128x100001, .i32⟩
  | 68 => ⟨S128x100001, .i32⟩
  | 69 => ⟨S128x100001, .i32⟩
  | 70 => ⟨S128x100001, .i32⟩
  | 71 => ⟨S_, .i32⟩
  | 72 => ⟨S128x100001, .i32⟩
  | 73 => ⟨S128x100001, .i32⟩
  | 74 => ⟨S_, .i32⟩
  | 75 => ⟨S128x100001, .i32⟩
  | 76 => ⟨S128x100001, .i32⟩
  | 77 => ⟨S128x100001, .i32⟩
  | 78 => ⟨S128x100001, .i32⟩
  | 79 => ⟨S128x100001, .i32⟩
  | 80 => ⟨S128x100001, .i32⟩
  | 81 => ⟨S128x100001, .i32⟩
  | 82 => ⟨S128x100001, .i32⟩
  | 83 => ⟨S_, .i32⟩
  | 84 => ⟨S128x100001, .i32⟩
  | 85 => ⟨S128x100001, .i32⟩
  | 86 => ⟨S128x100001, .i32⟩
  | 87 => ⟨S_, .i32⟩
  | 88 => ⟨S128x100001, .i32⟩
  | 89 => ⟨S128x100001, .i32⟩
  | 90 => ⟨S_, .i32⟩
  | 91 => ⟨S128x100001, .i32⟩
  | 92 => ⟨S128x100001, .i32⟩
  | 93 => ⟨S128x100001, .i32⟩
  | 94 => ⟨S128x100001, .i32⟩
  | 95 => ⟨S128x100001, .i32⟩
  | 96 => ⟨S_, .i32⟩
  | 97 => ⟨S128x100001, .i32⟩
  | 98 => ⟨S128x100001, .i32⟩
  | 99 => ⟨S_, .i32⟩
  | 100 => ⟨S128x100001, .i32⟩
  | 101 => ⟨S128x100001, .i32⟩
  | 102 => ⟨S128x100001, .i32⟩
  | 103 => ⟨S128x100001, .i32⟩
  | 104 => ⟨S128x100001, .i32⟩
  | 105 => ⟨S_, .i32⟩
  | 106 => ⟨S128x100001, .i32⟩
  | 107 => ⟨S128x100001, .i32⟩
  | 108 => ⟨S_, .i32⟩
  | 109 => ⟨S128x100001, .i32⟩
  | 110 => ⟨S128x100001, .i32⟩
  | 111 => ⟨S128x100001, .i32⟩
  | 112 => ⟨S128x100001, .i32⟩
  | 113 => ⟨S128x100001, .i32⟩
  | 114 => ⟨S_, .i32⟩
  | 115 => ⟨S128x100001, .i32⟩
  | 116 => ⟨S128x100001, .i32⟩
  | 117 => ⟨S_, .i32⟩
  | 118 => ⟨S128x100001, .i32⟩
  | 119 => ⟨S128x100001, .i32⟩
  | 120 => ⟨S128x100001, .i32⟩
  | 121 => ⟨S128x100001, .i32⟩
  | 122 => ⟨S128x100001, .i32⟩
  | 123 => ⟨S128x100001, .i32⟩
  | 124 => ⟨S128x100001, .i32⟩
  | 125 => ⟨S128x100001, .i32⟩
  | 126 => ⟨S_, .i32⟩
  | 127 => ⟨S128x100001, .i32⟩
  | _ => ⟨S128x100000, .f32⟩

abbrev hbmTy0_1 (i : Nat) : BufTy := match i % 128 with
  | 0 => ⟨S128x100001, .i32⟩
  | 1 => ⟨S128x100001, .i32⟩
  | 2 => ⟨S_, .i32⟩
  | 3 => ⟨S128x100001, .i32⟩
  | 4 => ⟨S128x100001, .i32⟩
  | 5 => ⟨S_, .i32⟩
  | 6 => ⟨S128x100001, .i32⟩
  | 7 => ⟨S128x100001, .i32⟩
  | 8 => ⟨S128x100001, .i32⟩
  | 9 => ⟨S128x100001, .i32⟩
  | 10 => ⟨S128x100001, .i32⟩
  | 11 => ⟨S_, .i32⟩
  | 12 => ⟨S128x100001, .i32⟩
  | 13 => ⟨S128x100001, .i32⟩
  | 14 => ⟨S_, .i32⟩
  | 15 => ⟨S128x100001, .i32⟩
  | 16 => ⟨S128x100001, .i32⟩
  | 17 => ⟨S128x100001, .i32⟩
  | 18 => ⟨S128x100001, .i32⟩
  | 19 => ⟨S128x100001, .i32⟩
  | 20 => ⟨S_, .i32⟩
  | 21 => ⟨S128x100001, .i32⟩
  | 22 => ⟨S128x100001, .i32⟩
  | 23 => ⟨S_, .i32⟩
  | 24 => ⟨S128x100001, .i32⟩
  | 25 => ⟨S128x100001, .i32⟩
  | 26 => ⟨S128x100001, .i32⟩
  | 27 => ⟨S128x100001, .i32⟩
  | 28 => ⟨S128x100001, .i32⟩
  | 29 => ⟨S_, .i32⟩
  | 30 => ⟨S128x100001, .i32⟩
  | 31 => ⟨S128x100001, .i32⟩
  | 32 => ⟨S_, .i32⟩
  | 33 => ⟨S128x100001, .i32⟩
  | 34 => ⟨S128x100001, .i32⟩
  | 35 => ⟨S128x100001, .i32⟩
  | 36 => ⟨S128x100001, .i32⟩
  | 37 => ⟨S128x100001, .i32⟩
  | 38 => ⟨S128x100001, .i32⟩
  | 39 => ⟨S128x100001, .i32⟩
  | 40 => ⟨S128x100001, .i32⟩
  | 41 => ⟨S_, .i32⟩
  | 42 => ⟨S128x100001, .i32⟩
  | 43 => ⟨S128x100001, .i32⟩
  | 44 => ⟨S128x100001, .i32⟩
  | 45 => ⟨S_, .i32⟩
  | 46 => ⟨S128x100001, .i32⟩
  | 47 => ⟨S128x100001, .i32⟩
  | 48 => ⟨S_, .i32⟩
  | 49 => ⟨S128x100001, .i32⟩
  | 50 => ⟨S128x100001, .i32⟩
  | 51 => ⟨S128x100001, .i32⟩
  | 52 => ⟨S128x100001, .i32⟩
  | 53 => ⟨S128x100001, .i32⟩
  | 54 => ⟨S_, .i32⟩
  | 55 => ⟨S128x100001, .i32⟩
  | 56 => ⟨S128x100001, .i32⟩
  | 57 => ⟨S_, .i32⟩
  | 58 => ⟨S128x100001, .i32⟩
  | 59 => ⟨S128x100001, .i32⟩
  | 60 => ⟨S128x100001, .i32⟩
  | 61 => ⟨S128x100001, .i32⟩
  | 62 => ⟨S128x100001, .i32⟩
  | 63 => ⟨S_, .i32⟩
  | 64 => ⟨S128x100001, .i32⟩
  | 65 => ⟨S128x100001, .i32⟩
  | 66 => ⟨S_, .i32⟩
  | 67 => ⟨S128x100001, .i32⟩
  | 68 => ⟨S128x100001, .i32⟩
  | 69 => ⟨S128x100001, .i32⟩
  | 70 => ⟨S128x100001, .i32⟩
  | 71 => ⟨S128x100001, .i32⟩
  | 72 => ⟨S_, .i32⟩
  | 73 => ⟨S128x100001, .i32⟩
  | 74 => ⟨S128x100001, .i32⟩
  | 75 => ⟨S_, .i32⟩
  | 76 => ⟨S128x100001, .i32⟩
  | 77 => ⟨S128x100001, .i32⟩
  | 78 => ⟨S128x100001, .i32⟩
  | 79 => ⟨S128x100001, .i32⟩
  | 80 => ⟨S128x100001, .i32⟩
  | 81 => ⟨S128x100001, .i32⟩
  | 82 => ⟨S128x100001, .i32⟩
  | 83 => ⟨S128x100001, .i32⟩
  | 84 => ⟨S_, .i32⟩
  | 85 => ⟨S128x100001, .i32⟩
  | 86 => ⟨S128x100001, .i32⟩
  | 87 => ⟨S128x100001, .i32⟩
  | 88 => ⟨S_, .i32⟩
  | 89 => ⟨S128x100001, .i32⟩
  | 90 => ⟨S128x100001, .i32⟩
  | 91 => ⟨S_, .i32⟩
  | 92 => ⟨S128x100001, .i32⟩
  | 93 => ⟨S128x100001, .i32⟩
  | 94 => ⟨S128x100001, .i32⟩
  | 95 => ⟨S128x100001, .i32⟩
  | 96 => ⟨S128x100001, .i32⟩
  | 97 => ⟨S_, .i32⟩
  | 98 => ⟨S128x100001, .i32⟩
  | 99 => ⟨S128x100001, .i32⟩
  | 100 => ⟨S_, .i32⟩
  | 101 => ⟨S128x100001, .i32⟩
  | 102 => ⟨S128x100001, .i32⟩
  | 103 => ⟨S128x100001, .i32⟩
  | 104 => ⟨S128x100001, .i32⟩
  | 105 => ⟨S128x100001, .i32⟩
  | 106 => ⟨S_, .i32⟩
  | 107 => ⟨S128x100001, .i32⟩
  | 108 => ⟨S128x100001, .i32⟩
  | 109 => ⟨S_, .i32⟩
  | 110 => ⟨S128x100001, .i32⟩
  | 111 => ⟨S128x100001, .i32⟩
  | 112 => ⟨S128x100001, .i32⟩
  | 113 => ⟨S128x100001, .i32⟩
  | 114 => ⟨S128x100001, .i32⟩
  | 115 => ⟨S_, .i32⟩
  | 116 => ⟨S128x100001, .i32⟩
  | 117 => ⟨S128x100001, .i32⟩
  | 118 => ⟨S_, .i32⟩
  | 119 => ⟨S128x100001, .i32⟩
  | 120 => ⟨S128x100001, .i32⟩
  | 121 => ⟨S128x100001, .i32⟩
  | 122 => ⟨S128x100001, .i32⟩
  | 123 => ⟨S128x100001, .i32⟩
  | 124 => ⟨S128x100001, .i32⟩
  | 125 => ⟨S128x100001, .i32⟩
  | 126 => ⟨S128x100001, .i32⟩
  | 127 => ⟨S_, .i32⟩
  | _ => ⟨S128x100000, .f32⟩

abbrev hbmTy0_2 (i : Nat) : BufTy := match i % 128 with
  | 0 => ⟨S128x100001, .i32⟩
  | 1 => ⟨S128x100001, .i32⟩
  | 2 => ⟨S128x100001, .i32⟩
  | 3 => ⟨S_, .i32⟩
  | 4 => ⟨S128x100001, .i32⟩
  | 5 => ⟨S128x100001, .i32⟩
  | 6 => ⟨S_, .i32⟩
  | 7 => ⟨S128x100001, .i32⟩
  | 8 => ⟨S128x100001, .i32⟩
  | 9 => ⟨S128x100001, .f32⟩
  | 10 => ⟨S_, .f32⟩
  | 11 => ⟨S128x100001, .f32⟩
  | 12 => ⟨S128x100001, .f32⟩
  | 13 => ⟨S1x1, .f32⟩
  | 14 => ⟨S128x100001, .f32⟩
  | 15 => ⟨S128x100001, .f32⟩
  | 16 => ⟨S128x100001, .f32⟩
  | 17 => ⟨S128x100001, .f32⟩
  | 18 => ⟨S128x100001, .f32⟩
  | 19 => ⟨S128x100001, .f32⟩
  | 20 => ⟨S128x100001, .f32⟩
  | 21 => ⟨S128x100001, .f32⟩
  | 22 => ⟨S128x100001, .f32⟩
  | 23 => ⟨S128x100001, .f32⟩
  | 24 => ⟨S128x100001, .f32⟩
  | 25 => ⟨S128x100001, .i32⟩
  | 26 => ⟨S_, .f32⟩
  | 27 => ⟨S_, .i32⟩
  | 28 => ⟨S128, .f32⟩
  | 29 => ⟨S128, .i32⟩
  | 30 => ⟨S128, .f32⟩
  | _ => ⟨S128x100000, .f32⟩

abbrev hbmTy (i : Nat) : BufTy := match i / 128 with
  | 0 => hbmTy0_0 i
  | 1 => hbmTy0_1 i
  | 2 => hbmTy0_2 i
  | _ => ⟨S128x100000, .f32⟩

abbrev bufTy : (tb : Table) → Fin (tcTables nBuf tb) → BufTy
  | .hbm, ⟨i, _⟩ => hbmTy i
  | _, _ => ⟨S128x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_call0_cst : Ref sig .tc := ⟨.hbm, 13, rfl⟩
abbrev main_call0_cst_0 : Ref sig .tc := ⟨.hbm, 14, rfl⟩
abbrev main_call0_call0_v0 : Ref sig .tc := ⟨.hbm, 15, rfl⟩
abbrev main_call0_call0_v1 : Ref sig .tc := ⟨.hbm, 16, rfl⟩
abbrev main_call0_call0_v2 : Ref sig .tc := ⟨.hbm, 17, rfl⟩
abbrev main_call0_call0_v3 : Ref sig .tc := ⟨.hbm, 18, rfl⟩
abbrev main_call0_call0_v4 : Ref sig .tc := ⟨.hbm, 19, rfl⟩
abbrev main_call0_call0_v5 : Ref sig .tc := ⟨.hbm, 20, rfl⟩
abbrev main_call0_call0_v6 : Ref sig .tc := ⟨.hbm, 21, rfl⟩
abbrev main_call0_call0_v7 : Ref sig .tc := ⟨.hbm, 22, rfl⟩
abbrev main_call0_call0_v8 : Ref sig .tc := ⟨.hbm, 23, rfl⟩
abbrev main_call0_call0_c : Ref sig .tc := ⟨.hbm, 24, rfl⟩
abbrev main_call0_call0_v9 : Ref sig .tc := ⟨.hbm, 25, rfl⟩
abbrev main_call0_call0_v10 : Ref sig .tc := ⟨.hbm, 26, rfl⟩
abbrev main_call0_call0_c_0 : Ref sig .tc := ⟨.hbm, 27, rfl⟩
abbrev main_call0_call0_v11 : Ref sig .tc := ⟨.hbm, 28, rfl⟩
abbrev main_call0_call0_v12 : Ref sig .tc := ⟨.hbm, 29, rfl⟩
abbrev main_call0_call0_v13 : Ref sig .tc := ⟨.hbm, 30, rfl⟩
abbrev main_call0_call0_c_1 : Ref sig .tc := ⟨.hbm, 31, rfl⟩
abbrev main_call0_call0_v14 : Ref sig .tc := ⟨.hbm, 32, rfl⟩
abbrev main_call0_call0_v15 : Ref sig .tc := ⟨.hbm, 33, rfl⟩
abbrev main_call0_call0_v16 : Ref sig .tc := ⟨.hbm, 34, rfl⟩
abbrev main_call0_call0_v17 : Ref sig .tc := ⟨.hbm, 35, rfl⟩
abbrev main_call0_call0_call0_v0 : Ref sig .tc := ⟨.hbm, 36, rfl⟩
abbrev main_call0_call0_call0_c : Ref sig .tc := ⟨.hbm, 37, rfl⟩
abbrev main_call0_call0_call0_v1 : Ref sig .tc := ⟨.hbm, 38, rfl⟩
abbrev main_call0_call0_call0_v2 : Ref sig .tc := ⟨.hbm, 39, rfl⟩
abbrev main_call0_call0_call0_v3 : Ref sig .tc := ⟨.hbm, 40, rfl⟩
abbrev main_call0_call0_call0_v4 : Ref sig .tc := ⟨.hbm, 41, rfl⟩
abbrev main_call0_call0_call0_v5 : Ref sig .tc := ⟨.hbm, 42, rfl⟩
abbrev main_call0_call0_call0_v6 : Ref sig .tc := ⟨.hbm, 43, rfl⟩
abbrev main_call0_call0_call0_c_0 : Ref sig .tc := ⟨.hbm, 44, rfl⟩
abbrev main_call0_call0_call0_v7 : Ref sig .tc := ⟨.hbm, 45, rfl⟩
abbrev main_call0_call0_call0_v8 : Ref sig .tc := ⟨.hbm, 46, rfl⟩
abbrev main_call0_call0_call0_c_1 : Ref sig .tc := ⟨.hbm, 47, rfl⟩
abbrev main_call0_call0_call0_v9 : Ref sig .tc := ⟨.hbm, 48, rfl⟩
abbrev main_call0_call0_call0_v10 : Ref sig .tc := ⟨.hbm, 49, rfl⟩
abbrev main_call0_call0_call0_v11 : Ref sig .tc := ⟨.hbm, 50, rfl⟩
abbrev main_call0_call0_call0_v12 : Ref sig .tc := ⟨.hbm, 51, rfl⟩
abbrev main_call0_call0_call0_v13 : Ref sig .tc := ⟨.hbm, 52, rfl⟩
abbrev main_call0_call0_call0_c_2 : Ref sig .tc := ⟨.hbm, 53, rfl⟩
abbrev main_call0_call0_call0_v14 : Ref sig .tc := ⟨.hbm, 54, rfl⟩
abbrev main_call0_call0_call0_v15 : Ref sig .tc := ⟨.hbm, 55, rfl⟩
abbrev main_call0_call0_call0_c_3 : Ref sig .tc := ⟨.hbm, 56, rfl⟩
abbrev main_call0_call0_call0_v16 : Ref sig .tc := ⟨.hbm, 57, rfl⟩
abbrev main_call0_call0_call0_v17 : Ref sig .tc := ⟨.hbm, 58, rfl⟩
abbrev main_call0_call0_call0_v18 : Ref sig .tc := ⟨.hbm, 59, rfl⟩
abbrev main_call0_call0_call0_v19 : Ref sig .tc := ⟨.hbm, 60, rfl⟩
abbrev main_call0_call0_call0_v20 : Ref sig .tc := ⟨.hbm, 61, rfl⟩
abbrev main_call0_call0_call0_c_4 : Ref sig .tc := ⟨.hbm, 62, rfl⟩
abbrev main_call0_call0_call0_v21 : Ref sig .tc := ⟨.hbm, 63, rfl⟩
abbrev main_call0_call0_call0_v22 : Ref sig .tc := ⟨.hbm, 64, rfl⟩
abbrev main_call0_call0_call0_c_5 : Ref sig .tc := ⟨.hbm, 65, rfl⟩
abbrev main_call0_call0_call0_v23 : Ref sig .tc := ⟨.hbm, 66, rfl⟩
abbrev main_call0_call0_call0_v24 : Ref sig .tc := ⟨.hbm, 67, rfl⟩
abbrev main_call0_call0_call0_v25 : Ref sig .tc := ⟨.hbm, 68, rfl⟩
abbrev main_call0_call0_call0_v26 : Ref sig .tc := ⟨.hbm, 69, rfl⟩
abbrev main_call0_call0_call0_v27 : Ref sig .tc := ⟨.hbm, 70, rfl⟩
abbrev main_call0_call0_call0_c_6 : Ref sig .tc := ⟨.hbm, 71, rfl⟩
abbrev main_call0_call0_call0_v28 : Ref sig .tc := ⟨.hbm, 72, rfl⟩
abbrev main_call0_call0_call0_v29 : Ref sig .tc := ⟨.hbm, 73, rfl⟩
abbrev main_call0_call0_call0_c_7 : Ref sig .tc := ⟨.hbm, 74, rfl⟩
abbrev main_call0_call0_call0_v30 : Ref sig .tc := ⟨.hbm, 75, rfl⟩
abbrev main_call0_call0_call0_v31 : Ref sig .tc := ⟨.hbm, 76, rfl⟩
abbrev main_call0_call0_call0_v32 : Ref sig .tc := ⟨.hbm, 77, rfl⟩
abbrev main_call0_call0_call0_v33 : Ref sig .tc := ⟨.hbm, 78, rfl⟩
abbrev main_call0_call0_call0_v34 : Ref sig .tc := ⟨.hbm, 79, rfl⟩
abbrev main_call0_call0_call0_v35 : Ref sig .tc := ⟨.hbm, 80, rfl⟩
abbrev main_call0_call0_call0_v36 : Ref sig .tc := ⟨.hbm, 81, rfl⟩
abbrev main_call0_call0_call0_v37 : Ref sig .tc := ⟨.hbm, 82, rfl⟩
abbrev main_call0_call0_call0_c_8 : Ref sig .tc := ⟨.hbm, 83, rfl⟩
abbrev main_call0_call0_call0_v38 : Ref sig .tc := ⟨.hbm, 84, rfl⟩
abbrev main_call0_call0_call0_v39 : Ref sig .tc := ⟨.hbm, 85, rfl⟩
abbrev main_call0_call0_call0_v40 : Ref sig .tc := ⟨.hbm, 86, rfl⟩
abbrev main_call0_call0_call0_c_9 : Ref sig .tc := ⟨.hbm, 87, rfl⟩
abbrev main_call0_call0_call0_v41 : Ref sig .tc := ⟨.hbm, 88, rfl⟩
abbrev main_call0_call0_call0_v42 : Ref sig .tc := ⟨.hbm, 89, rfl⟩
abbrev main_call0_call0_call0_c_10 : Ref sig .tc := ⟨.hbm, 90, rfl⟩
abbrev main_call0_call0_call0_v43 : Ref sig .tc := ⟨.hbm, 91, rfl⟩
abbrev main_call0_call0_call0_v44 : Ref sig .tc := ⟨.hbm, 92, rfl⟩
abbrev main_call0_call0_call0_v45 : Ref sig .tc := ⟨.hbm, 93, rfl⟩
abbrev main_call0_call0_call0_v46 : Ref sig .tc := ⟨.hbm, 94, rfl⟩
abbrev main_call0_call0_call0_v47 : Ref sig .tc := ⟨.hbm, 95, rfl⟩
abbrev main_call0_call0_call0_c_11 : Ref sig .tc := ⟨.hbm, 96, rfl⟩
abbrev main_call0_call0_call0_v48 : Ref sig .tc := ⟨.hbm, 97, rfl⟩
abbrev main_call0_call0_call0_v49 : Ref sig .tc := ⟨.hbm, 98, rfl⟩
abbrev main_call0_call0_call0_c_12 : Ref sig .tc := ⟨.hbm, 99, rfl⟩
abbrev main_call0_call0_call0_v50 : Ref sig .tc := ⟨.hbm, 100, rfl⟩
abbrev main_call0_call0_call0_v51 : Ref sig .tc := ⟨.hbm, 101, rfl⟩
abbrev main_call0_call0_call0_v52 : Ref sig .tc := ⟨.hbm, 102, rfl⟩
abbrev main_call0_call0_call0_v53 : Ref sig .tc := ⟨.hbm, 103, rfl⟩
abbrev main_call0_call0_call0_v54 : Ref sig .tc := ⟨.hbm, 104, rfl⟩
abbrev main_call0_call0_call0_c_13 : Ref sig .tc := ⟨.hbm, 105, rfl⟩
abbrev main_call0_call0_call0_v55 : Ref sig .tc := ⟨.hbm, 106, rfl⟩
abbrev main_call0_call0_call0_v56 : Ref sig .tc := ⟨.hbm, 107, rfl⟩
abbrev main_call0_call0_call0_c_14 : Ref sig .tc := ⟨.hbm, 108, rfl⟩
abbrev main_call0_call0_call0_v57 : Ref sig .tc := ⟨.hbm, 109, rfl⟩
abbrev main_call0_call0_call0_v58 : Ref sig .tc := ⟨.hbm, 110, rfl⟩
abbrev main_call0_call0_call0_v59 : Ref sig .tc := ⟨.hbm, 111, rfl⟩
abbrev main_call0_call0_call0_v60 : Ref sig .tc := ⟨.hbm, 112, rfl⟩
abbrev main_call0_call0_call0_v61 : Ref sig .tc := ⟨.hbm, 113, rfl⟩
abbrev main_call0_call0_call0_c_15 : Ref sig .tc := ⟨.hbm, 114, rfl⟩
abbrev main_call0_call0_call0_v62 : Ref sig .tc := ⟨.hbm, 115, rfl⟩
abbrev main_call0_call0_call0_v63 : Ref sig .tc := ⟨.hbm, 116, rfl⟩
abbrev main_call0_call0_call0_c_16 : Ref sig .tc := ⟨.hbm, 117, rfl⟩
abbrev main_call0_call0_call0_v64 : Ref sig .tc := ⟨.hbm, 118, rfl⟩
abbrev main_call0_call0_call0_v65 : Ref sig .tc := ⟨.hbm, 119, rfl⟩
abbrev main_call0_call0_call0_v66 : Ref sig .tc := ⟨.hbm, 120, rfl⟩
abbrev main_call0_call0_call0_v67 : Ref sig .tc := ⟨.hbm, 121, rfl⟩
abbrev main_call0_call0_call0_v68 : Ref sig .tc := ⟨.hbm, 122, rfl⟩
abbrev main_call0_call0_call0_v69 : Ref sig .tc := ⟨.hbm, 123, rfl⟩
abbrev main_call0_call0_call0_v70 : Ref sig .tc := ⟨.hbm, 124, rfl⟩
abbrev main_call0_call0_call0_v71 : Ref sig .tc := ⟨.hbm, 125, rfl⟩
abbrev main_call0_call0_call0_c_17 : Ref sig .tc := ⟨.hbm, 126, rfl⟩
abbrev main_call0_call0_call0_v72 : Ref sig .tc := ⟨.hbm, 127, rfl⟩
abbrev main_call0_call0_call0_v73 : Ref sig .tc := ⟨.hbm, 128, rfl⟩
abbrev main_call0_call0_call0_v74 : Ref sig .tc := ⟨.hbm, 129, rfl⟩
abbrev main_call0_call0_call0_c_18 : Ref sig .tc := ⟨.hbm, 130, rfl⟩
abbrev main_call0_call0_call0_v75 : Ref sig .tc := ⟨.hbm, 131, rfl⟩
abbrev main_call0_call0_call0_v76 : Ref sig .tc := ⟨.hbm, 132, rfl⟩
abbrev main_call0_call0_call0_c_19 : Ref sig .tc := ⟨.hbm, 133, rfl⟩
abbrev main_call0_call0_call0_v77 : Ref sig .tc := ⟨.hbm, 134, rfl⟩
abbrev main_call0_call0_call0_v78 : Ref sig .tc := ⟨.hbm, 135, rfl⟩
abbrev main_call0_call0_call0_v79 : Ref sig .tc := ⟨.hbm, 136, rfl⟩
abbrev main_call0_call0_call0_v80 : Ref sig .tc := ⟨.hbm, 137, rfl⟩
abbrev main_call0_call0_call0_v81 : Ref sig .tc := ⟨.hbm, 138, rfl⟩
abbrev main_call0_call0_call0_c_20 : Ref sig .tc := ⟨.hbm, 139, rfl⟩
abbrev main_call0_call0_call0_v82 : Ref sig .tc := ⟨.hbm, 140, rfl⟩
abbrev main_call0_call0_call0_v83 : Ref sig .tc := ⟨.hbm, 141, rfl⟩
abbrev main_call0_call0_call0_c_21 : Ref sig .tc := ⟨.hbm, 142, rfl⟩
abbrev main_call0_call0_call0_v84 : Ref sig .tc := ⟨.hbm, 143, rfl⟩
abbrev main_call0_call0_call0_v85 : Ref sig .tc := ⟨.hbm, 144, rfl⟩
abbrev main_call0_call0_call0_v86 : Ref sig .tc := ⟨.hbm, 145, rfl⟩
abbrev main_call0_call0_call0_v87 : Ref sig .tc := ⟨.hbm, 146, rfl⟩
abbrev main_call0_call0_call0_v88 : Ref sig .tc := ⟨.hbm, 147, rfl⟩
abbrev main_call0_call0_call0_c_22 : Ref sig .tc := ⟨.hbm, 148, rfl⟩
abbrev main_call0_call0_call0_v89 : Ref sig .tc := ⟨.hbm, 149, rfl⟩
abbrev main_call0_call0_call0_v90 : Ref sig .tc := ⟨.hbm, 150, rfl⟩
abbrev main_call0_call0_call0_c_23 : Ref sig .tc := ⟨.hbm, 151, rfl⟩
abbrev main_call0_call0_call0_v91 : Ref sig .tc := ⟨.hbm, 152, rfl⟩
abbrev main_call0_call0_call0_v92 : Ref sig .tc := ⟨.hbm, 153, rfl⟩
abbrev main_call0_call0_call0_v93 : Ref sig .tc := ⟨.hbm, 154, rfl⟩
abbrev main_call0_call0_call0_v94 : Ref sig .tc := ⟨.hbm, 155, rfl⟩
abbrev main_call0_call0_call0_v95 : Ref sig .tc := ⟨.hbm, 156, rfl⟩
abbrev main_call0_call0_call0_c_24 : Ref sig .tc := ⟨.hbm, 157, rfl⟩
abbrev main_call0_call0_call0_v96 : Ref sig .tc := ⟨.hbm, 158, rfl⟩
abbrev main_call0_call0_call0_v97 : Ref sig .tc := ⟨.hbm, 159, rfl⟩
abbrev main_call0_call0_call0_c_25 : Ref sig .tc := ⟨.hbm, 160, rfl⟩
abbrev main_call0_call0_call0_v98 : Ref sig .tc := ⟨.hbm, 161, rfl⟩
abbrev main_call0_call0_call0_v99 : Ref sig .tc := ⟨.hbm, 162, rfl⟩
abbrev main_call0_call0_call0_v100 : Ref sig .tc := ⟨.hbm, 163, rfl⟩
abbrev main_call0_call0_call0_v101 : Ref sig .tc := ⟨.hbm, 164, rfl⟩
abbrev main_call0_call0_call0_v102 : Ref sig .tc := ⟨.hbm, 165, rfl⟩
abbrev main_call0_call0_call0_v103 : Ref sig .tc := ⟨.hbm, 166, rfl⟩
abbrev main_call0_call0_call0_v104 : Ref sig .tc := ⟨.hbm, 167, rfl⟩
abbrev main_call0_call0_call0_v105 : Ref sig .tc := ⟨.hbm, 168, rfl⟩
abbrev main_call0_call0_call0_c_26 : Ref sig .tc := ⟨.hbm, 169, rfl⟩
abbrev main_call0_call0_call0_v106 : Ref sig .tc := ⟨.hbm, 170, rfl⟩
abbrev main_call0_call0_call0_v107 : Ref sig .tc := ⟨.hbm, 171, rfl⟩
abbrev main_call0_call0_call0_v108 : Ref sig .tc := ⟨.hbm, 172, rfl⟩
abbrev main_call0_call0_call0_c_27 : Ref sig .tc := ⟨.hbm, 173, rfl⟩
abbrev main_call0_call0_call0_v109 : Ref sig .tc := ⟨.hbm, 174, rfl⟩
abbrev main_call0_call0_call0_v110 : Ref sig .tc := ⟨.hbm, 175, rfl⟩
abbrev main_call0_call0_call0_c_28 : Ref sig .tc := ⟨.hbm, 176, rfl⟩
abbrev main_call0_call0_call0_v111 : Ref sig .tc := ⟨.hbm, 177, rfl⟩
abbrev main_call0_call0_call0_v112 : Ref sig .tc := ⟨.hbm, 178, rfl⟩
abbrev main_call0_call0_call0_v113 : Ref sig .tc := ⟨.hbm, 179, rfl⟩
abbrev main_call0_call0_call0_v114 : Ref sig .tc := ⟨.hbm, 180, rfl⟩
abbrev main_call0_call0_call0_v115 : Ref sig .tc := ⟨.hbm, 181, rfl⟩
abbrev main_call0_call0_call0_c_29 : Ref sig .tc := ⟨.hbm, 182, rfl⟩
abbrev main_call0_call0_call0_v116 : Ref sig .tc := ⟨.hbm, 183, rfl⟩
abbrev main_call0_call0_call0_v117 : Ref sig .tc := ⟨.hbm, 184, rfl⟩
abbrev main_call0_call0_call0_c_30 : Ref sig .tc := ⟨.hbm, 185, rfl⟩
abbrev main_call0_call0_call0_v118 : Ref sig .tc := ⟨.hbm, 186, rfl⟩
abbrev main_call0_call0_call0_v119 : Ref sig .tc := ⟨.hbm, 187, rfl⟩
abbrev main_call0_call0_call0_v120 : Ref sig .tc := ⟨.hbm, 188, rfl⟩
abbrev main_call0_call0_call0_v121 : Ref sig .tc := ⟨.hbm, 189, rfl⟩
abbrev main_call0_call0_call0_v122 : Ref sig .tc := ⟨.hbm, 190, rfl⟩
abbrev main_call0_call0_call0_c_31 : Ref sig .tc := ⟨.hbm, 191, rfl⟩
abbrev main_call0_call0_call0_v123 : Ref sig .tc := ⟨.hbm, 192, rfl⟩
abbrev main_call0_call0_call0_v124 : Ref sig .tc := ⟨.hbm, 193, rfl⟩
abbrev main_call0_call0_call0_c_32 : Ref sig .tc := ⟨.hbm, 194, rfl⟩
abbrev main_call0_call0_call0_v125 : Ref sig .tc := ⟨.hbm, 195, rfl⟩
abbrev main_call0_call0_call0_v126 : Ref sig .tc := ⟨.hbm, 196, rfl⟩
abbrev main_call0_call0_call0_v127 : Ref sig .tc := ⟨.hbm, 197, rfl⟩
abbrev main_call0_call0_call0_v128 : Ref sig .tc := ⟨.hbm, 198, rfl⟩
abbrev main_call0_call0_call0_v129 : Ref sig .tc := ⟨.hbm, 199, rfl⟩
abbrev main_call0_call0_call0_c_33 : Ref sig .tc := ⟨.hbm, 200, rfl⟩
abbrev main_call0_call0_call0_v130 : Ref sig .tc := ⟨.hbm, 201, rfl⟩
abbrev main_call0_call0_call0_v131 : Ref sig .tc := ⟨.hbm, 202, rfl⟩
abbrev main_call0_call0_call0_c_34 : Ref sig .tc := ⟨.hbm, 203, rfl⟩
abbrev main_call0_call0_call0_v132 : Ref sig .tc := ⟨.hbm, 204, rfl⟩
abbrev main_call0_call0_call0_v133 : Ref sig .tc := ⟨.hbm, 205, rfl⟩
abbrev main_call0_call0_call0_v134 : Ref sig .tc := ⟨.hbm, 206, rfl⟩
abbrev main_call0_call0_call0_v135 : Ref sig .tc := ⟨.hbm, 207, rfl⟩
abbrev main_call0_call0_call0_v136 : Ref sig .tc := ⟨.hbm, 208, rfl⟩
abbrev main_call0_call0_call0_v137 : Ref sig .tc := ⟨.hbm, 209, rfl⟩
abbrev main_call0_call0_call0_v138 : Ref sig .tc := ⟨.hbm, 210, rfl⟩
abbrev main_call0_call0_call0_v139 : Ref sig .tc := ⟨.hbm, 211, rfl⟩
abbrev main_call0_call0_call0_c_35 : Ref sig .tc := ⟨.hbm, 212, rfl⟩
abbrev main_call0_call0_call0_v140 : Ref sig .tc := ⟨.hbm, 213, rfl⟩
abbrev main_call0_call0_call0_v141 : Ref sig .tc := ⟨.hbm, 214, rfl⟩
abbrev main_call0_call0_call0_v142 : Ref sig .tc := ⟨.hbm, 215, rfl⟩
abbrev main_call0_call0_call0_c_36 : Ref sig .tc := ⟨.hbm, 216, rfl⟩
abbrev main_call0_call0_call0_v143 : Ref sig .tc := ⟨.hbm, 217, rfl⟩
abbrev main_call0_call0_call0_v144 : Ref sig .tc := ⟨.hbm, 218, rfl⟩
abbrev main_call0_call0_call0_c_37 : Ref sig .tc := ⟨.hbm, 219, rfl⟩
abbrev main_call0_call0_call0_v145 : Ref sig .tc := ⟨.hbm, 220, rfl⟩
abbrev main_call0_call0_call0_v146 : Ref sig .tc := ⟨.hbm, 221, rfl⟩
abbrev main_call0_call0_call0_v147 : Ref sig .tc := ⟨.hbm, 222, rfl⟩
abbrev main_call0_call0_call0_v148 : Ref sig .tc := ⟨.hbm, 223, rfl⟩
abbrev main_call0_call0_call0_v149 : Ref sig .tc := ⟨.hbm, 224, rfl⟩
abbrev main_call0_call0_call0_c_38 : Ref sig .tc := ⟨.hbm, 225, rfl⟩
abbrev main_call0_call0_call0_v150 : Ref sig .tc := ⟨.hbm, 226, rfl⟩
abbrev main_call0_call0_call0_v151 : Ref sig .tc := ⟨.hbm, 227, rfl⟩
abbrev main_call0_call0_call0_c_39 : Ref sig .tc := ⟨.hbm, 228, rfl⟩
abbrev main_call0_call0_call0_v152 : Ref sig .tc := ⟨.hbm, 229, rfl⟩
abbrev main_call0_call0_call0_v153 : Ref sig .tc := ⟨.hbm, 230, rfl⟩
abbrev main_call0_call0_call0_v154 : Ref sig .tc := ⟨.hbm, 231, rfl⟩
abbrev main_call0_call0_call0_v155 : Ref sig .tc := ⟨.hbm, 232, rfl⟩
abbrev main_call0_call0_call0_v156 : Ref sig .tc := ⟨.hbm, 233, rfl⟩
abbrev main_call0_call0_call0_c_40 : Ref sig .tc := ⟨.hbm, 234, rfl⟩
abbrev main_call0_call0_call0_v157 : Ref sig .tc := ⟨.hbm, 235, rfl⟩
abbrev main_call0_call0_call0_v158 : Ref sig .tc := ⟨.hbm, 236, rfl⟩
abbrev main_call0_call0_call0_c_41 : Ref sig .tc := ⟨.hbm, 237, rfl⟩
abbrev main_call0_call0_call0_v159 : Ref sig .tc := ⟨.hbm, 238, rfl⟩
abbrev main_call0_call0_call0_v160 : Ref sig .tc := ⟨.hbm, 239, rfl⟩
abbrev main_call0_call0_call0_v161 : Ref sig .tc := ⟨.hbm, 240, rfl⟩
abbrev main_call0_call0_call0_v162 : Ref sig .tc := ⟨.hbm, 241, rfl⟩
abbrev main_call0_call0_call0_v163 : Ref sig .tc := ⟨.hbm, 242, rfl⟩
abbrev main_call0_call0_call0_c_42 : Ref sig .tc := ⟨.hbm, 243, rfl⟩
abbrev main_call0_call0_call0_v164 : Ref sig .tc := ⟨.hbm, 244, rfl⟩
abbrev main_call0_call0_call0_v165 : Ref sig .tc := ⟨.hbm, 245, rfl⟩
abbrev main_call0_call0_call0_c_43 : Ref sig .tc := ⟨.hbm, 246, rfl⟩
abbrev main_call0_call0_call0_v166 : Ref sig .tc := ⟨.hbm, 247, rfl⟩
abbrev main_call0_call0_call0_v167 : Ref sig .tc := ⟨.hbm, 248, rfl⟩
abbrev main_call0_call0_call0_v168 : Ref sig .tc := ⟨.hbm, 249, rfl⟩
abbrev main_call0_call0_call0_v169 : Ref sig .tc := ⟨.hbm, 250, rfl⟩
abbrev main_call0_call0_call0_v170 : Ref sig .tc := ⟨.hbm, 251, rfl⟩
abbrev main_call0_call0_v18_0 : Ref sig .tc := ⟨.hbm, 252, rfl⟩
abbrev main_call0_call0_call0_v172 : Ref sig .tc := ⟨.hbm, 253, rfl⟩
abbrev main_call0_call0_call0_v173 : Ref sig .tc := ⟨.hbm, 254, rfl⟩
abbrev main_call0_call0_call0_c_44 : Ref sig .tc := ⟨.hbm, 255, rfl⟩
abbrev main_call0_call0_call0_v174 : Ref sig .tc := ⟨.hbm, 256, rfl⟩
abbrev main_call0_call0_v18_1 : Ref sig .tc := ⟨.hbm, 257, rfl⟩
abbrev main_call0_call0_v19 : Ref sig .tc := ⟨.hbm, 258, rfl⟩
abbrev main_call0_call0_c_2 : Ref sig .tc := ⟨.hbm, 259, rfl⟩
abbrev main_call0_call0_v20 : Ref sig .tc := ⟨.hbm, 260, rfl⟩
abbrev main_call0_call0_v21 : Ref sig .tc := ⟨.hbm, 261, rfl⟩
abbrev main_call0_call0_c_3 : Ref sig .tc := ⟨.hbm, 262, rfl⟩
abbrev main_call0_call0_v22 : Ref sig .tc := ⟨.hbm, 263, rfl⟩
abbrev main_call0_call0_v23 : Ref sig .tc := ⟨.hbm, 264, rfl⟩
abbrev main_call0_call0_v24 : Ref sig .tc := ⟨.hbm, 265, rfl⟩
abbrev main_call0_call0_cst : Ref sig .tc := ⟨.hbm, 266, rfl⟩
abbrev main_call0_call0_v25 : Ref sig .tc := ⟨.hbm, 267, rfl⟩
abbrev main_call0_call0_v26 : Ref sig .tc := ⟨.hbm, 268, rfl⟩
abbrev main_call0_call0_v27 : Ref sig .tc := ⟨.hbm, 269, rfl⟩
abbrev main_call0_call0_v28 : Ref sig .tc := ⟨.hbm, 270, rfl⟩
abbrev main_call0_call0_v29 : Ref sig .tc := ⟨.hbm, 271, rfl⟩
abbrev main_call0_call0_v30 : Ref sig .tc := ⟨.hbm, 272, rfl⟩
abbrev main_call0_call0_v31 : Ref sig .tc := ⟨.hbm, 273, rfl⟩
abbrev main_call0_call0_v32 : Ref sig .tc := ⟨.hbm, 274, rfl⟩
abbrev main_call0_v0 : Ref sig .tc := ⟨.hbm, 275, rfl⟩
abbrev main_call0_v1 : Ref sig .tc := ⟨.hbm, 276, rfl⟩
abbrev main_call0_v2 : Ref sig .tc := ⟨.hbm, 277, rfl⟩
abbrev main_call0_v3 : Ref sig .tc := ⟨.hbm, 278, rfl⟩
abbrev main_v8 : Ref sig .tc := ⟨.hbm, 279, rfl⟩
abbrev main_v9 : Ref sig .tc := ⟨.hbm, 280, rfl⟩
abbrev main_call1_v0 : Ref sig .tc := ⟨.hbm, 281, rfl⟩
abbrev main_call1_cst : Ref sig .tc := ⟨.hbm, 282, rfl⟩
abbrev main_call1_c : Ref sig .tc := ⟨.hbm, 283, rfl⟩
abbrev main_call1_v1_0 : Ref sig .tc := ⟨.hbm, 284, rfl⟩
abbrev main_v10 : Ref sig .tc := ⟨.hbm, 285, rfl⟩
abbrev main_v11 : Ref sig .tc := ⟨.hbm, 286, rfl⟩

abbrev nD : Nat := 1
abbrev τ : Topo := Topo.v7x

variable {F : FTy → Type} [FloatOps F]
-- ==== Proof.Word.lean ====
/-
  The random word of one element as a function of the element's number: the threefry block cipher with 32-bit words and
  20 rounds under the key `(0, 42)`, applied to the counter `(0, n)`, its two result words joined by exclusive or. A
  step is numbered: every fifth one adds the key, the others are rounds. The state after `k` steps is `st k`, the lemmas
  of the second half recognise one step written out in vector operations (the two kernels' printed operations are the
  25 steps, many times over).
-/
module

public import Idealize.ShloMosaic.PureOps

@[expose] public section

noncomputable section

namespace Cert.Proof

open Idealize.ShloMosaic

/-! ## On one word -/

/-- A word turned left by `l` places, `r = 32 - l` places to the right. -/
def turn (l r x : BitVec 32) : BitVec 32 := x <<< l ||| x >>> r

/-- How far the round numbered `k` turns its word to the left, -/
def lft (k : ℕ) : BitVec 32 :=
  match k % 10 with
  | 0 => 15#32
  | 1 => 26#32
  | 2 => 6#32
  | 4 => 17#32
  | 5 => 29#32
  | 6 => 16#32
  | 7 => 24#32
  | _ => 13#32

/-- and how far the other part goes to the right. -/
def rgt (k : ℕ) : BitVec 32 :=
  match k % 10 with
  | 0 => 17#32
  | 1 => 6#32
  | 2 => 26#32
  | 4 => 15#32
  | 5 => 3#32
  | 6 => 16#32
  | 7 => 8#32
  | _ => 19#32

/-- The key word step `k` adds to the first word, -/
def keyA (k : ℕ) : BitVec 32 :=
  match k with
  | 3 => 42#32
  | 8 => 466689008#32
  | 13 => 0#32
  | 18 => 42#32
  | _ => 466689008#32

/-- and the one it adds to the second, -/
def keyB (k : ℕ) : BitVec 32 :=
  match k with
  | 3 => 466689008#32
  | 8 => 0#32
  | 13 => 42#32
  | 18 => 466689008#32
  | _ => 0#32

/-- beside the key step's own number. -/
def keyN (k : ℕ) : BitVec 32 :=
  match k with
  | 3 => 1#32
  | 8 => 2#32
  | 13 => 3#32
  | 18 => 4#32
  | _ => 5#32

/-- The cipher's two words after the first round and `k` steps more, from the second word `y` the first round meets. -/
def st : ℕ → BitVec 32 → BitVec 32 × BitVec 32
  | 0, y => (y, turn 13#32 19#32 y ^^^ y)
  | k + 1, y =>
    if k % 5 = 3 then ((st k y).1 + keyA k, (st k y).2 + keyB k + keyN k)
    else ((st k y).1 + (st k y).2, turn (lft k) (rgt k) (st k y).2 ^^^ ((st k y).1 + (st k y).2))

/-- The random word of element `n`. -/
def word (n : BitVec 32) : BitVec 32 := (st 24 (n + 42#32)).1 ^^^ (st 24 (n + 42#32)).2

/-- Its upper 23 bits, which the draw compares. -/
def draw (n : BitVec 32) : BitVec 32 := word n >>> 9#32

/-! ## On vectors, a step at a time -/

section Vec

variable {s : Shape}

/-- The first word of every element's state, -/
def stA (k : ℕ) (y : IVec s 32) : IVec s 32 := fun j => (st k (y j)).1
/-- and the second. -/
def stB (k : ℕ) (y : IVec s 32) : IVec s 32 := fun j => (st k (y j)).2
/-- Every element's draw. -/
def drawV (x : IVec s 32) : IVec s 32 := fun j => draw (x j)

theorem lft_lt (k : ℕ) : (lft k).toNat < 32 := by unfold lft; split <;> decide
theorem rgt_lt (k : ℕ) : (rgt k).toNat < 32 := by unfold rgt; split <;> decide

/-- The first round. -/
theorem first_B (y : IVec s 32) :
    xori (ori (shli y (broadcast s 13#32)) (shrui y (broadcast s 19#32))) y = stB 0 y := rfl

/-- The first word after the second round. -/
theorem first_A (y : IVec s 32) : addi y (stB 0 y) = stA 1 y := rfl

/-- A round's first word. -/
theorem round_A (k : ℕ) (h : (k % 5 == 3) = false) (y : IVec s 32) : addi (stA k y) (stB k y) = stA (k + 1) y := by
  have h' : ¬ k % 5 = 3 := by simpa using h
  funext j; simp only [stA, st, if_neg h']; rfl

/-- A round's second word. -/
theorem round_B (k m : ℕ) (hm : k + 1 = m) (l r : BitVec 32) (h : (k % 5 == 3) = false) (hl : lft k = l) (hr : rgt k = r) (y : IVec s 32) :
    xori (ori (shli (stB k y) (broadcast s l)) (shrui (stB k y) (broadcast s r))) (stA m y) = stB m y := by
  subst hm hl hr
  have h' : ¬ k % 5 = 3 := by simpa using h
  funext j
  show (IntOp.shli .vector (st k (y j)).2 (lft k) ||| IntOp.shrui .vector (st k (y j)).2 (rgt k)) ^^^ (st (k + 1) (y j)).1 = (st (k + 1) (y j)).2
  simp only [st, if_neg h', turn, IntOp.shli, IntOp.shrui, if_pos (lft_lt k), if_pos (rgt_lt k)]

/-- A key step's first word. -/
theorem key_A (k : ℕ) (c : BitVec 32) (h : (k % 5 == 3) = true) (hc : keyA k = c) (y : IVec s 32) :
    addi (stA k y) (broadcast s c) = stA (k + 1) y := by
  subst hc
  have h' : k % 5 = 3 := by simpa using h
  funext j; simp only [stA, st, if_pos h']; rfl

/-- A key step's second word. -/
theorem key_B (k : ℕ) (c n : BitVec 32) (h : (k % 5 == 3) = true) (hc : keyB k = c) (hn : keyN k = n) (y : IVec s 32) :
    addi (addi (stB k y) (broadcast s c)) (broadcast s n) = stB (k + 1) y := by
  subst hc hn
  have h' : k % 5 = 3 := by simpa using h
  funext j; simp only [stB, st, if_pos h']; rfl

/-- The two words joined and shifted are the draw. -/
theorem join_AB (x : IVec s 32) :
    shrui (xori (stA 24 (addi x (broadcast s 42#32))) (stB 24 (addi x (broadcast s 42#32)))) (broadcast s 9#32) = drawV x := rfl

end Vec

end Cert.Proof

end
-- ==== Proof.Best.lean ====
/-
  The running best: what the two kernels keep for every lane while they go through the columns, and the walk over the
  sixteen lanes that the tile's kernel ends with. All of it is said as functions of the draws, and a counted loop whose
  trips only compute is the iterate of its trip.
-/
module

public import proofs.«01_k».proof.Proof.Word
public import Idealize.ShloMosaic.Lib.Scf

@[expose] public section

noncomputable section

namespace Cert.Proof

universe v

open Idealize.ShloMosaic Idealize.SL.Sem

/-! ## A loop that only computes -/

/-- `n` steps of `g` from `a`, the steps numbered from 0. -/
def runN {σ : Type*} (g : ℕ → σ → σ) (a : σ) : ℕ → σ
  | 0 => a
  | k + 1 => g k (runN g a k)

/-- The trips to come, when every trip only computes. -/
theorem forFrom_pure {E : Type → Type v} {σ : Type} {n : ℕ} (body : Fin n → σ → Prog E σ) (g : ℕ → σ → σ) (a : σ)
    (h : ∀ k acc, body k acc = pure (g k.val acc)) :
    ∀ d k, k + d = n → Scf.forFrom body ((List.finRange n).drop k) (runN g a k) = pure (runN g a n) := by
  intro d
  induction d with
  | zero =>
    intro k hk
    obtain rfl : k = n := hk
    rw [List.drop_of_length_le (by simp)]; rfl
  | succ d ih =>
    intro k hk
    have hlt : k < n := by omega
    rw [List.drop_eq_getElem_cons (by simpa using hlt), List.getElem_finRange, Fin.cast_mk, Scf.forFrom_cons, h, pure_bind]
    exact ih (k + 1) (by omega)

/-- A counted loop whose trips only compute is the iterate of its trip. -/
theorem for_pure {E : Type → Type v} {σ : Type} {w : ℕ} (l : Scf.Loop w) (hok : l.OK) (body : Fin l.trips → σ → Prog E σ)
    (g : ℕ → σ → σ) (a : σ) (h : ∀ k acc, body k acc = pure (g k.val acc)) :
    Scf.Loop.for l hok a body = pure (runN g a l.trips) := by
  rw [Scf.Loop.for, Scf.for_eq]
  exact forFrom_pure body g a h l.trips 0 (by simp)

/-- A loop from 0 by 1 counts its trips. -/
theorem iv_one (t : ℕ) : Scf.iv 0#32 1#32 t = BitVec.ofNat 32 t := by simp [Scf.iv]

/-! ## The running best of every lane -/

section Vec

variable {s : Shape}

/-- The larger of the new value and the kept one. -/
def up (v a : IVec s 32) : IVec s 32 := select (cmpi .sgt v a) v a
/-- The number of the step that gave it: the older on a tie. -/
def wh (t : BitVec 32) (v a b : IVec s 32) : IVec s 32 := select (cmpi .sgt v a) (broadcast s t) b
/-- The same two where only some lanes take part. -/
def upM (ok : IVec s 1) (v a : IVec s 32) : IVec s 32 := select (andi (cmpi .sgt v a) ok) v a
def whM (ok : IVec s 1) (t : BitVec 32) (v a b : IVec s 32) : IVec s 32 :=
  select (andi (cmpi .sgt v a) ok) (broadcast s t) b

/-- One step of the running best: the values and the steps that gave them. -/
def bestV (t : BitVec 32) (v : IVec s 32) (p : IVec s 32 × IVec s 32) : IVec s 32 × IVec s 32 :=
  (up v p.1, wh t v p.1 p.2)

/-- One step of which only the lanes of `ok` take part. -/
def bestM (ok : IVec s 1) (t : BitVec 32) (v : IVec s 32) (p : IVec s 32 × IVec s 32) : IVec s 32 × IVec s 32 :=
  (upM ok v p.1, whM ok t v p.1 p.2)

theorem up_fold (v a : IVec s 32) : select (cmpi .sgt v a) v a = up v a := rfl
theorem wh_fold (t : BitVec 32) (v a b : IVec s 32) : select (cmpi .sgt v a) (broadcast s t) b = wh t v a b := rfl
theorem upM_fold (ok : IVec s 1) (v a : IVec s 32) : select (andi (cmpi .sgt v a) ok) v a = upM ok v a := rfl
theorem whM_fold (ok : IVec s 1) (t : BitVec 32) (v a b : IVec s 32) :
    select (andi (cmpi .sgt v a) ok) (broadcast s t) b = whM ok t v a b := rfl

end Vec

/-! ## The walk over sixteen lanes -/

/-- One lane's turn: its value `v` with its column `c` replaces the pair kept when it is larger, or as large with a
    smaller column. -/
def pick (v c : BitVec 32) (p : BitVec 32 × BitVec 32) : BitVec 32 × BitVec 32 :=
  let better := Scalar.ori (Scalar.cmpi .sgt v p.1) (Scalar.andi (Scalar.cmpi .eq v p.1) (Scalar.cmpi .slt c p.2))
  (Scalar.select better v p.1, Scalar.select better c p.2)

/-- Lane `k` of a vector of sixteen. -/
def lane (v : IVec ⟨1, ![16]⟩ 32) (k : ℕ) : BitVec 32 := v (fun a => match a with | ⟨0, _⟩ => Fin.ofNat 16 k)

/-- The pair after the first `k` lanes. -/
def walk (v c : IVec ⟨1, ![16]⟩ 32) : ℕ → BitVec 32 × BitVec 32 :=
  runN (fun k => pick (lane v k) (lane c k)) (4294967295#32, 2147483647#32)

/-- Lane `k`, cut out as a vector of one and read there. -/
theorem lane_fold (v : IVec ⟨1, ![16]⟩ 32) (k : ℕ) (h : (⟨1, ![16]⟩ : Shape).Slices ![k] ⟨1, ![1]⟩)
    (h' : ∀ a, (![0] : Fin 1 → ℕ) a < (⟨1, ![1]⟩ : Shape).size a) :
    extractAt ![0] (extractStridedSlice ⟨1, ![1]⟩ ![k] v h) h' = lane v k := by
  have hk : k + 1 ≤ 16 := h.2 0
  refine congrArg v (funext fun a => ?_)
  obtain rfl : a = 0 := Subsingleton.elim _ _
  exact Fin.ext (show k + 0 = k % 16 by rw [Nat.mod_eq_of_lt (by omega)]; rfl)

/-- The first lane's turn, against the constants the walk starts from. -/
theorem walk_first_v (v c : IVec ⟨1, ![16]⟩ 32) :
    Scalar.select (Scalar.ori (Scalar.cmpi .sgt (lane v 0) 4294967295#32)
      (Scalar.andi (Scalar.cmpi .eq (lane v 0) 4294967295#32) (Scalar.cmpi .slt (lane c 0) 2147483647#32))) (lane v 0) 4294967295#32
      = (walk v c 1).1 := rfl
theorem walk_first_c (v c : IVec ⟨1, ![16]⟩ 32) :
    Scalar.select (Scalar.ori (Scalar.cmpi .sgt (lane v 0) 4294967295#32)
      (Scalar.andi (Scalar.cmpi .eq (lane v 0) 4294967295#32) (Scalar.cmpi .slt (lane c 0) 2147483647#32))) (lane c 0) 2147483647#32
      = (walk v c 1).2 := rfl
/-- A later lane's. -/
theorem walk_next_v (v c : IVec ⟨1, ![16]⟩ 32) (k : ℕ) :
    Scalar.select (Scalar.ori (Scalar.cmpi .sgt (lane v k) (walk v c k).1)
      (Scalar.andi (Scalar.cmpi .eq (lane v k) (walk v c k).1) (Scalar.cmpi .slt (lane c k) (walk v c k).2))) (lane v k) (walk v c k).1
      = (walk v c (k + 1)).1 := rfl
theorem walk_next_c (v c : IVec ⟨1, ![16]⟩ 32) (k : ℕ) :
    Scalar.select (Scalar.ori (Scalar.cmpi .sgt (lane v k) (walk v c k).1)
      (Scalar.andi (Scalar.cmpi .eq (lane v k) (walk v c k).1) (Scalar.cmpi .slt (lane c k) (walk v c k).2))) (lane c k) (walk v c k).2
      = (walk v c (k + 1)).2 := rfl

end Cert.Proof

end
-- ==== Proof.Pick.lean ====
/-
  The first largest of some values: what "the best" means (`Top`), that it is unique and how the best of two sets gives that
  of both, and that the kernels' running best, their walk over lanes and a reduction by maximum and then by minimum find it.
  The values are below `2 ^ 31`, where the signed comparison of two words is that of their numbers.
-/
module

public import Idealize.ShloMosaic.PureOps.Reduce
public import proofs.«01_k».proof.Proof.Best

@[expose] public section

noncomputable section

namespace Cert.Proof

open Idealize.ShloMosaic

/-! ## The first largest -/

/-- `k` is in `S`, no value of `S` is larger than the one at `k`, and none as large comes earlier. -/
def Top (S : ℕ → Prop) (f : ℕ → BitVec 32) (k : ℕ) : Prop :=
  S k ∧ ∀ c, S c → (f c).toNat ≤ (f k).toNat ∧ ((f c).toNat = (f k).toNat → k ≤ c)

/-- There is one such place at most. -/
theorem Top.unique {S : ℕ → Prop} {f : ℕ → BitVec 32} {k k' : ℕ} (h : Top S f k) (h' : Top S f k') : k = k' := by
  have h1 := h.2 k' h'.1
  have h2 := h'.2 k h.1
  have he : (f k).toNat = (f k').toNat := by omega
  have := h1.2 he.symm
  have := h2.2 he
  omega

theorem Top.congr {S T : ℕ → Prop} {f : ℕ → BitVec 32} {k : ℕ} (h : Top S f k) (hST : ∀ c, S c ↔ T c) : Top T f k :=
  ⟨(hST k).1 h.1, fun c hc => h.2 c ((hST c).2 hc)⟩

/-- Of two sets' best the larger, or as large and earlier, is the best of both. -/
theorem Top.union {S T U : ℕ → Prop} {f : ℕ → BitVec 32} {k k' : ℕ} (hU : ∀ c, U c ↔ S c ∨ T c) (h : Top S f k)
    (h' : Top T f k') :
    Top U f (if (f k).toNat < (f k').toNat ∨ ((f k').toNat = (f k).toNat ∧ k' < k) then k' else k) := by
  split
  · next hc =>
    refine ⟨(hU _).2 (.inr h'.1), fun c hcU => ?_⟩
    rcases (hU c).1 hcU with hs | ht
    · have := h.2 c hs
      refine ⟨by omega, fun he => ?_⟩
      have := this.2
      omega
    · exact h'.2 c ht
  · next hc =>
    refine ⟨(hU _).2 (.inl h.1), fun c hcU => ?_⟩
    rcases (hU c).1 hcU with hs | ht
    · exact h.2 c hs
    · have := h'.2 c ht
      refine ⟨by omega, fun he => ?_⟩
      have := this.2
      omega

/-- One place alone. -/
theorem Top.one (f : ℕ → BitVec 32) (k : ℕ) : Top (fun c => c = k) f k :=
  ⟨rfl, fun c hc => by subst hc; exact ⟨le_rfl, fun _ => le_rfl⟩⟩

/-! ## Signed comparison -/

theorem toInt_small {x : BitVec 32} (hx : x.toNat < 2147483648) : x.toInt = x.toNat :=
  BitVec.toInt_eq_toNat_of_lt (by omega)

/-- Below `2 ^ 31` the signed order is the numbers'. -/
theorem slt_small {x y : BitVec 32} (hx : x.toNat < 2147483648) (hy : y.toNat < 2147483648) :
    x.slt y = decide (x.toNat < y.toNat) := by
  rw [BitVec.slt_eq_decide, toInt_small hx, toInt_small hy]
  simp

/-- Minus one is below them all, -/
theorem slt_minus {y : BitVec 32} (hy : y.toNat < 2147483648) : (4294967295#32).slt y = true := by
  rw [BitVec.slt_eq_decide, toInt_small hy, show (4294967295#32).toInt = -1 from by decide, decide_eq_true_eq]
  omega

/-- and so is the least word. -/
theorem slt_least {y : BitVec 32} (hy : y.toNat < 2147483648) : (2147483648#32).slt y = true := by
  rw [BitVec.slt_eq_decide, toInt_small hy, show (2147483648#32).toInt = -2147483648 from by decide, decide_eq_true_eq]
  omega

/-- A draw has 23 bits. -/
theorem draw_lt (n : BitVec 32) : (draw n).toNat < 8388608 := by
  have := (word n).isLt
  show ((word n) >>> 9).toNat < _
  rw [BitVec.toNat_ushiftRight, Nat.shiftRight_eq_div_pow]
  omega

/-! ## The running best of one lane -/

/-- One step: the new value with the step's number, when it is larger than the one kept. -/
def stepS (t v : BitVec 32) (p : BitVec 32 × BitVec 32) : BitVec 32 × BitVec 32 := if p.1.slt v then (v, t) else p

/-- One lane of a vector state. -/
def atL {s : Shape} (j : s.Idx) (p : IVec s 32 × IVec s 32) : BitVec 32 × BitVec 32 := (p.1 j, p.2 j)

theorem bestV_at {s : Shape} (j : s.Idx) (t : BitVec 32) (v : IVec s 32) (p : IVec s 32 × IVec s 32) :
    atL j (bestV t v p) = stepS t (v j) (atL j p) := by
  show (Scalar.select (BitVec.ofBool ((p.1 j).slt (v j))) (v j) (p.1 j),
    Scalar.select (BitVec.ofBool ((p.1 j).slt (v j))) t (p.2 j)) = if (p.1 j).slt (v j) then (v j, t) else (p.1 j, p.2 j)
  cases (p.1 j).slt (v j) <;> rfl

theorem bestM_at {s : Shape} (j : s.Idx) (ok : IVec s 1) (b : Bool) (hb : ok j = BitVec.ofBool b) (t : BitVec 32)
    (v : IVec s 32) (p : IVec s 32 × IVec s 32) :
    atL j (bestM ok t v p) = if b then stepS t (v j) (atL j p) else atL j p := by
  show (Scalar.select (BitVec.ofBool ((p.1 j).slt (v j)) &&& ok j) (v j) (p.1 j),
    Scalar.select (BitVec.ofBool ((p.1 j).slt (v j)) &&& ok j) t (p.2 j))
    = if b then (if (p.1 j).slt (v j) then (v j, t) else (p.1 j, p.2 j)) else (p.1 j, p.2 j)
  rw [hb]
  cases (p.1 j).slt (v j) <;> cases b <;> rfl

/-- What lane `l` of `w` keeps after `n` steps, step `t` being column `t * w + l`: the best of its columns so far with the
    step that gave it, or nothing yet. -/
def Kept (N w l : ℕ) (f : ℕ → BitVec 32) (n : ℕ) (p : BitVec 32 × BitVec 32) : Prop :=
  (n = 0 ∧ p.1 = 4294967295#32)
    ∨ ∃ t, Top (fun t => t < n ∧ t * w + l < N) (fun t => f (t * w + l)) t ∧ p = (f (t * w + l), BitVec.ofNat 32 t)

/-- One more step, of which the lane takes part when its column is one of the `N`. -/
theorem Kept.step {N w l : ℕ} {f : ℕ → BitVec 32} (hf : ∀ c, (f c).toNat < 8388608) (hl : l < N) {n : ℕ}
    {p : BitVec 32 × BitVec 32} (h : Kept N w l f n p) :
    Kept N w l f (n + 1)
      (if decide (n * w + l < N) then stepS (BitVec.ofNat 32 n) (f (n * w + l)) p else p) := by
  have hn := hf (n * w + l)
  refine .inr ?_
  rcases h with ⟨h0, hp⟩ | ⟨t, ht, hp⟩
  · subst h0
    refine ⟨0, ?_, ?_⟩
    · refine (Top.one _ 0).congr fun c => ⟨fun hc => ?_, fun hc => ?_⟩
      · subst hc; exact ⟨by omega, by omega⟩
      · omega
    · rw [if_pos (by simpa using hl), stepS, hp, slt_minus (by omega), if_pos rfl]
  · by_cases hc : n * w + l < N
    · have hs : (f (t * w + l)).slt (f (n * w + l)) = decide ((f (t * w + l)).toNat < (f (n * w + l)).toNat) :=
        slt_small (by have := hf (t * w + l); omega) (by omega)
      rw [if_pos (by simpa using hc), stepS, hp, hs]
      have hu := Top.union (U := fun t => t < n + 1 ∧ t * w + l < N) (T := fun c => c = n) (fun c => by
        constructor
        · rintro ⟨h1, h2⟩
          by_cases hcn : c = n
          · exact .inr hcn
          · exact .inl ⟨by omega, h2⟩
        · rintro (⟨h1, h2⟩ | h1)
          · exact ⟨by omega, h2⟩
          · subst h1; exact ⟨by omega, hc⟩) ht (Top.one _ n)
      refine ⟨_, hu, ?_⟩
      have htn : t < n := ht.1.1
      by_cases hlt : (f (t * w + l)).toNat < (f (n * w + l)).toNat
      · rw [if_pos (by simpa using hlt), if_pos (.inl hlt)]
      · rw [if_neg (by simpa using hlt), if_neg (by omega)]
    · rw [if_neg (by simpa using hc)]
      refine ⟨t, ht.congr fun c => ?_, hp⟩
      constructor
      · rintro ⟨h1, h2⟩; exact ⟨by omega, h2⟩
      · rintro ⟨h1, h2⟩
        refine ⟨?_, h2⟩
        by_contra hcn
        have : c = n := by omega
        subst this
        exact hc h2

/-- The same where all columns of the step take part. -/
theorem Kept.step_all {N w l : ℕ} {f : ℕ → BitVec 32} (hf : ∀ c, (f c).toNat < 8388608) (hl : l < N) {n : ℕ}
    (hn : n * w + l < N) {p : BitVec 32 × BitVec 32} (h : Kept N w l f n p) :
    Kept N w l f (n + 1) (stepS (BitVec.ofNat 32 n) (f (n * w + l)) p) := by
  have := h.step hf hl
  rwa [if_pos (by simpa using hn)] at this

/-- Lane `l`'s value and column are those of the best of its columns. -/
def LaneTop (N w l : ℕ) (f : ℕ → BitVec 32) (v c : BitVec 32) : Prop :=
  ∃ k, Top (fun k => k < N ∧ k % w = l) f k ∧ v = f k ∧ c = BitVec.ofNat 32 k

/-- Once all columns are seen. -/
theorem Kept.lane {N w l n : ℕ} {f : ℕ → BitVec 32} (hw : l < w) (hn : n ≠ 0) (hN : N ≤ n * w)
    {p : BitVec 32 × BitVec 32} (h : Kept N w l f n p) :
    LaneTop N w l f p.1 (p.2 * BitVec.ofNat 32 w + BitVec.ofNat 32 l) := by
  rcases h with ⟨h0, -⟩ | ⟨t, ht, hp⟩
  · exact absurd h0 hn
  · refine ⟨t * w + l, ⟨⟨ht.1.2, by rw [Nat.mul_add_mod_self_right, Nat.mod_eq_of_lt hw]⟩, fun c hc => ?_⟩, by rw [hp], by
      rw [hp, BitVec.ofNat_add, BitVec.ofNat_mul]⟩
    have hcw : c / w * w + l = c := by
      rw [← hc.2, Nat.mul_comm]; exact Nat.div_add_mod c w
    have hq : c / w < n := by
      rw [Nat.div_lt_iff_lt_mul (by omega)]; omega
    have := ht.2 (c / w) ⟨hq, by rw [hcw]; exact hc.1⟩
    dsimp only at this
    rw [hcw] at this
    refine ⟨this.1, fun he => ?_⟩
    have h1 := Nat.mul_le_mul_right w (this.2 he)
    omega

/-! ## The best of the lanes -/

/-- One lane's turn of the walk, as one condition. -/
theorem pick_eq (v c : BitVec 32) (p : BitVec 32 × BitVec 32) :
    pick v c p = if (p.1.slt v || (v == p.1 && c.slt p.2)) then (v, c) else p := by
  show (Scalar.select (BitVec.ofBool (p.1.slt v) ||| (BitVec.ofBool (v == p.1) &&& BitVec.ofBool (c.slt p.2))) v p.1,
    Scalar.select (BitVec.ofBool (p.1.slt v) ||| (BitVec.ofBool (v == p.1) &&& BitVec.ofBool (c.slt p.2))) c p.2) = _
  cases p.1.slt v <;> cases v == p.1 <;> cases c.slt p.2 <;> rfl

theorem toNat_col {k : ℕ} (hk : k < 2147483647) : (BitVec.ofNat 32 k).toNat = k := by
  rw [BitVec.toNat_ofNat, Nat.mod_eq_of_lt (by omega)]

/-- The walk over sixteen lanes ends at the best of all columns. -/
theorem walk_top {N : ℕ} (hN : 16 ≤ N) (hN' : N < 2147483647) {f : ℕ → BitVec 32} (hf : ∀ c, (f c).toNat < 8388608)
    (v c : IVec ⟨1, ![16]⟩ 32) (h : ∀ l, l < 16 → LaneTop N 16 l f (lane v l) (lane c l)) :
    ∃ k, Top (fun k => k < N) f k ∧ (walk v c 16).2 = BitVec.ofNat 32 k := by
  have key : ∀ n, n < 16 → ∃ k, Top (fun k => k < N ∧ k % 16 < n + 1) f k ∧ walk v c (n + 1) = (f k, BitVec.ofNat 32 k) := by
    intro n
    induction n with
    | zero =>
      intro _
      obtain ⟨k, hk, hv, hc⟩ := h 0 (by omega)
      refine ⟨k, hk.congr fun c => ⟨fun hc => ⟨hc.1, by omega⟩, fun hc => ⟨hc.1, by omega⟩⟩, ?_⟩
      show pick (lane v 0) (lane c 0) (4294967295#32, 2147483647#32) = _
      have hs : (4294967295#32).slt (f k) = true := slt_minus (by have := hf k; omega)
      rw [hv, hc, pick_eq, hs, Bool.true_or, if_pos rfl]
    | succ n ih =>
      intro hn
      obtain ⟨k, hk, hw⟩ := ih (by omega)
      obtain ⟨k', hk', hv, hc⟩ := h (n + 1) hn
      have hu := Top.union (U := fun k => k < N ∧ k % 16 < n + 1 + 1) (fun c => by
        constructor
        · rintro ⟨h1, h2⟩
          by_cases hcn : c % 16 < n + 1
          · exact .inl ⟨h1, hcn⟩
          · exact .inr ⟨h1, by omega⟩
        · rintro (⟨h1, h2⟩ | ⟨h1, h2⟩) <;> exact ⟨h1, by omega⟩) hk hk'
      refine ⟨_, hu, ?_⟩
      show pick (lane v (n + 1)) (lane c (n + 1)) (walk v c (n + 1)) = _
      have h1 : (f k).slt (f k') = decide ((f k).toNat < (f k').toNat) :=
        slt_small (by have := hf k; omega) (by have := hf k'; omega)
      have h2 : (BitVec.ofNat 32 k').slt (BitVec.ofNat 32 k) = decide (k' < k) := by
        have hk1 := hk.1.1
        have hk2 := hk'.1.1
        rw [slt_small (by rw [toNat_col (by omega)]; omega) (by rw [toNat_col (by omega)]; omega), toNat_col (by omega),
          toNat_col (by omega)]
      have h3 : (f k' == f k) = decide ((f k').toNat = (f k).toNat) := by
        rw [Bool.eq_iff_iff]; simp [BitVec.toNat_inj]
      rw [hw, hv, hc, pick_eq, h1, h2, h3]
      by_cases hcnd : (f k).toNat < (f k').toNat ∨ ((f k').toNat = (f k).toNat ∧ k' < k)
      · rw [if_pos (by simpa using hcnd), if_pos hcnd]
      · rw [if_neg (by simpa using hcnd), if_neg hcnd]
  obtain ⟨k, hk, hw⟩ := key 15 (by omega)
  exact ⟨k, hk.congr fun c => ⟨fun hc => hc.1, fun hc => ⟨hc, by omega⟩⟩, by rw [hw]⟩

/-- The maximum of a finite set of small values, from the least word, is one of them and none is larger. -/
theorem fold_max {ι : Type} [DecidableEq ι] (v : ι → BitVec 32) (hv : ∀ i, (v i).toNat < 2147483648) (S : Finset ι) :
    (S = ∅ ∧ S.fold IntOp.maxsi 2147483648#32 v = 2147483648#32)
      ∨ ∃ i ∈ S, S.fold IntOp.maxsi 2147483648#32 v = v i ∧ ∀ i' ∈ S, (v i').toNat ≤ (v i).toNat := by
  induction S using Finset.induction_on with
  | empty => exact .inl ⟨rfl, rfl⟩
  | insert a S ha ih =>
    refine .inr ?_
    rw [Finset.fold_insert ha]
    rcases ih with ⟨rfl, he⟩ | ⟨i, hi, he, hle⟩
    · refine ⟨a, by simp, ?_, fun i' hi' => ?_⟩
      · rw [he, IntOp.maxsi, slt_least (hv a), if_pos rfl]
      · rw [show i' = a by simpa using hi']
    · rw [he, IntOp.maxsi, slt_small (hv i) (hv a)]
      by_cases hlt : (v i).toNat < (v a).toNat
      · refine ⟨a, by simp, by rw [if_pos (by simpa using hlt)], fun i' hi' => ?_⟩
        rcases Finset.mem_insert.1 hi' with rfl | h
        · exact le_rfl
        · exact (hle i' h).trans hlt.le
      · refine ⟨i, by simp [hi], by rw [if_neg (by simpa using hlt)], fun i' hi' => ?_⟩
        rcases Finset.mem_insert.1 hi' with rfl | h
        · omega
        · exact hle i' h

/-- The minimum, from the largest word, likewise. -/
theorem fold_min {ι : Type} [DecidableEq ι] (v : ι → BitVec 32) (hv : ∀ i, (v i).toNat < 2147483648) (S : Finset ι) :
    (S = ∅ ∧ S.fold IntOp.minsi 2147483647#32 v = 2147483647#32)
      ∨ ∃ i ∈ S, S.fold IntOp.minsi 2147483647#32 v = v i ∧ ∀ i' ∈ S, (v i).toNat ≤ (v i').toNat := by
  induction S using Finset.induction_on with
  | empty => exact .inl ⟨rfl, rfl⟩
  | insert a S ha ih =>
    refine .inr ?_
    rw [Finset.fold_insert ha]
    have hbig : (2147483647#32).toNat = 2147483647 := by decide
    rcases ih with ⟨rfl, he⟩ | ⟨i, hi, he, hle⟩
    · refine ⟨a, by simp, ?_, fun i' hi' => ?_⟩
      · rw [he, IntOp.minsi, slt_small (hv a) (by omega), hbig]
        by_cases hlt : (v a).toNat < 2147483647
        · rw [if_pos (by simpa using hlt)]
        · rw [if_neg (by simpa using hlt)]
          apply BitVec.eq_of_toNat_eq
          have := hv a
          omega
      · rw [show i' = a by simpa using hi']
    · rw [he, IntOp.minsi, slt_small (hv a) (hv i)]
      by_cases hlt : (v a).toNat < (v i).toNat
      · refine ⟨a, by simp, by rw [if_pos (by simpa using hlt)], fun i' hi' => ?_⟩
        rcases Finset.mem_insert.1 hi' with rfl | h
        · exact le_rfl
        · exact hlt.le.trans (hle i' h)
      · refine ⟨i, by simp [hi], by rw [if_neg (by simpa using hlt)], fun i' hi' => ?_⟩
        rcases Finset.mem_insert.1 hi' with rfl | h
        · omega
        · exact hle i' h

/-- The largest value of all lanes and then the smallest column of the lanes that have it: the best of all columns. -/
theorem reduce_top {N w : ℕ} (hw : 0 < w) (hN : 0 < N) (hN' : N < 2147483647) {f : ℕ → BitVec 32}
    (hf : ∀ c, (f c).toNat < 8388608) {ι : Type} [DecidableEq ι] (S : Finset ι) (l : ι → ℕ) (hl : ∀ n < w, ∃ i ∈ S, l i = n)
    (v c : ι → BitVec 32) (h : ∀ i, LaneTop N w (l i) f (v i) (c i)) :
    ∃ k, Top (fun k => k < N) f k
      ∧ S.fold IntOp.minsi 2147483647#32
          (fun i => Scalar.select (BitVec.ofBool (v i == S.fold IntOp.maxsi 2147483648#32 v)) (c i) 2147483647#32)
        = BitVec.ofNat 32 k := by
  have hbig : (2147483647#32).toNat = 2147483647 := by decide
  have hv : ∀ i, (v i).toNat < 2147483648 := fun i => by
    obtain ⟨k, _, he, _⟩ := h i
    rw [he]; have := hf k; omega
  have hc : ∀ i, (c i).toNat < 2147483647 := fun i => by
    obtain ⟨k, hk, _, he⟩ := h i
    have := hk.1.1
    rw [he, toNat_col (by omega)]; omega
  rcases fold_max v hv S with ⟨hS, _⟩ | ⟨i₀, hi₀, he₀, hle₀⟩
  · obtain ⟨i, hi, _⟩ := hl 0 hw
    rw [hS] at hi; exact absurd hi (Finset.notMem_empty _)
  rw [he₀]
  have hx : ∀ i, Scalar.select (BitVec.ofBool (v i == v i₀)) (c i) 2147483647#32
      = if v i = v i₀ then c i else 2147483647#32 := fun i => by
    by_cases hvi : v i = v i₀
    · rw [if_pos hvi, hvi, beq_self_eq_true]; rfl
    · rw [if_neg hvi, beq_false_of_ne hvi]; rfl
  simp only [hx]
  rcases fold_min (fun i => if v i = v i₀ then c i else 2147483647#32) (fun i => by
    split
    · have := hc i; omega
    · decide) S with ⟨hS, _⟩ | ⟨i₁, hi₁, he₁, hle₁⟩
  · rw [hS] at hi₀; exact absurd hi₀ (Finset.notMem_empty _)
  rw [he₁]
  have h0 := hle₁ i₀ hi₀
  rw [if_pos rfl] at h0
  have hv₁ : v i₁ = v i₀ := by
    by_contra hne
    rw [if_neg hne] at h0
    have := hc i₀
    omega
  rw [if_pos hv₁] at hle₁ ⊢
  obtain ⟨k₁, hk₁, hvk₁, hck₁⟩ := h i₁
  refine ⟨k₁, ⟨hk₁.1.1, fun x hx' => ?_⟩, hck₁⟩
  obtain ⟨i, hi, hli⟩ := hl (x % w) (Nat.mod_lt _ hw)
  obtain ⟨k, hk, hvk, hck⟩ := h i
  have hkx := hk.2 x ⟨hx', hli.symm⟩
  have hm := hle₀ i hi
  rw [← hv₁, hvk₁, hvk] at hm
  refine ⟨hkx.1.trans hm, fun he => ?_⟩
  have hek : (f k).toNat = (f k₁).toNat := by omega
  have hvi : v i = v i₀ := by
    rw [← hv₁, hvk₁, hvk]
    exact BitVec.eq_of_toNat_eq hek
  have hlast := hle₁ i hi
  have hkN := hk.1.1
  have hk₁N := hk₁.1.1
  rw [if_pos hvi, hck, hck₁, toNat_col (by omega), toNat_col (by omega)] at hlast
  have := hkx.2 (by omega)
  omega

end Cert.Proof

end
-- ==== Proof.Tile.lean ====
/-
  The body each SparseCore tile runs, as a straight line: what it draws for its row sixteen columns at a time, the best it
  keeps per lane, the best of the sixteen lanes, and the one vector it stores and copies out (`tileOut`).
-/
module

public import Idealize.ShloMosaic.Lib.Pipeline.Value
public import proofs.«01_k».proof.Proof.Best
public import proofs.«01_k».proof.Proof.Gen.KernelIdeal.Skeleton

@[expose] public section

noncomputable section

namespace Cert.KernelIdeal.Proof

open Idealize.ShloMosaic Idealize.SL.Sem
open Cert.Proof Cert.KernelIdeal Cert.KernelIdeal.Gen

variable {F : FTy → Type} [FloatOps F]

/-- Sixteen draws of the tile's row, from column `x` on. -/
def tileDraw (i : grid0.Coords) (x : BitVec 32) : IVec S16 32 := drawV (addi (k0_pay40 i) (broadcast S16 x))

/-- One trip of the tile's loop. -/
def tileStep (i : grid0.Coords) (t : ℕ) : IVec S16 32 × IVec S16 32 → IVec S16 32 × IVec S16 32 :=
  bestV (BitVec.ofNat 32 t) (tileDraw i (BitVec.ofNat 32 t * 16#32))

set_option maxRecDepth 65536 in
/-- The loop's printed trip computes `tileStep`. -/
theorem tile_trip (i : grid0.Coords) (arg2 : Memref sig .scVector .hbm S32x16 .f32) (harg2 : arg2.IsWhole) (arg3 : Memref sig .scVector .vmem S16 .f32) (harg3 : arg3.IsWhole) (v387_r0 : DmaSems sig S_)
    (t : Fin k0_t1_loop.trips) (p : IVec S16 32 × IVec S16 32) :
    k0_t1_body (F := F) i arg2 harg2 arg3 harg3 v387_r0 t p = pure (tileStep i t.val p) := by
  rw [k0_t1_body, k0_part1_eq_skeleton, k0_part2_eq_skeleton, k0_part3_eq_skeleton, k0_part4_eq_skeleton]
  unfold k0_part1_skel k0_part2_skel k0_part3_skel k0_part4_skel
  simp only [pure_bind]
  simp only [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, k0_pay23, k0_pay24,
    k0_pay25, k0_pay26, k0_pay27, k0_pay28, k0_pay29, k0_pay30, k0_pay31, k0_pay32, k0_pay33, k0_pay34, k0_pay35, k0_pay36,
    k0_pay37, k0_pay38, k0_pay39, first_B, first_A, round_A, round_B, key_A, key_B, join_AB, Nat.reduceAdd, lft, rgt, keyA,
    keyB, keyN, Nat.reduceMod, Nat.reduceBEq, iv_one]
  rfl

/-- The sixteen lanes' best after the loop, the last chunk's one column included: values and chunk numbers. -/
def tileBest (i : grid0.Coords) : IVec S16 32 × IVec S16 32 :=
  bestM k0_pay43 6250#32 (tileDraw i 100000#32) (runN (tileStep i) (k0_pay41, k0_pay42) k0_t1_loop.trips)

/-- Every lane's column. -/
def tileCols (i : grid0.Coords) : IVec S16 32 :=
  addi (muli (tileBest i).2 (broadcast S16 16#32)) (iota .scVector S16 32 [0] iota_S16_d0_w32_scVector)

/-- What the tile stores: its row's column as a float in lane 0, zero elsewhere. -/
def tileOut (i : grid0.Coords) : FVec F S16 .f32 :=
  select (cmpi .eq (iota .scVector S16 32 [0] iota_S16_d0_w32_scVector) (broadcast S16 0#32))
    (broadcast S16 (Scalar.sitofp .f32 (walk (tileBest i).1 (tileCols i) 16).2)) (broadcast S16 (Scalar.ofBits .f32 0x00000000#32))

set_option maxRecDepth 65536 in
/-- The part of the kernel with the loop: the lanes' best after the 6250 full chunks, and the last chunk's first operations. -/
theorem tile_loop (i : grid0.Coords) (arg2 : Memref sig .scVector .hbm S32x16 .f32) (harg2 : arg2.IsWhole) (arg3 : Memref sig .scVector .vmem S16 .f32) (harg3 : arg3.IsWhole) (v387_r0 : DmaSems sig S_) :
    k0_part5 (F := F) i arg2 harg2 arg3 harg3 v387_r0
      = pure ⟨iota .scVector S16 32 [0] iota_S16_d0_w32_scVector, (runN (tileStep i) (k0_pay41, k0_pay42) k0_t1_loop.trips).1,
          (runN (tileStep i) (k0_pay41, k0_pay42) k0_t1_loop.trips).2, k0_pay43, k0_pay47 i, k0_pay48 i, k0_pay49 i⟩ := by
  rw [k0_part5_eq_skeleton, k0_part5_skel]
  have h := for_pure k0_t1_loop k0_t1_ok (k0_t1_body (F := F) i arg2 harg2 arg3 harg3 v387_r0) (tileStep i) (k0_pay41, k0_pay42) (tile_trip i arg2 harg2 arg3 harg3 v387_r0)
  rw [h]
  rfl

set_option maxRecDepth 65536 in
/-- The tile's kernel as its memory operations: the scratch is read, `tileOut` stored over it and copied to the tile's
    row of the result. -/
theorem tile_run (i : grid0.Coords) (arg2 : Memref sig .scVector .hbm S32x16 .f32) (harg2 : arg2.IsWhole) (arg3 : Memref sig .scVector .vmem S16 .f32) (harg3 : arg3.IsWhole) (v387_r0 : DmaSems sig S_) :
    cc0_k (F := F) i arg2 harg2 arg3 harg3 v387_r0 = (do
      let _ ← Prog.lift (.load arg3 (Rect.unit (s := S16) ![0] S16.size inb_S16_S16_0).toLoadRect (View.loadsAt_vmem h_S16))
      Prog.lift (.store arg3 (Rect.unit (s := S16) ![0] S16.size inb_S16_S16_0) (tileOut (F := F) i) Finset.univ (View.stores_vmem_bits_univ h_S16 rfl) (.inl rfl))
      Prog.lift (.enqueueDma arg3 (.here ((arg2.slice (Rect.unit (s := S32x16) (k0_off1 i) S1x16.size (k0_off1_inb i)) (fun _ => rfl)).squeeze S16 squeezes_S1x16_S16)) (.dma v387_r0.sem) harg3.wordExact ((View.wordExact_bits rfl).reshape _ _) ⟨Or.inl rfl, trivial⟩)
      Prog.lift (.waitDma2 v387_r0.sem arg3 ((arg2.slice (Rect.unit (s := S32x16) (k0_off1 i) S1x16.size (k0_off1_inb i)) (fun _ => rfl)).squeeze S16 squeezes_S1x16_S16) harg3.wordExact ((View.wordExact_bits rfl).reshape _ _))
      pure ⟨⟩) := by
  rw [cc0_k_eq_skeleton, cc0_k_skel, tile_loop, k0_part6_eq_skeleton, k0_part7_eq_skeleton, k0_part8_eq_skeleton,
    k0_part9_eq_skeleton, k0_part10_eq_skeleton, k0_part11_eq_skeleton, k0_part12_eq_skeleton]
  unfold k0_part6_skel k0_part7_skel k0_part8_skel k0_part9_skel k0_part10_skel k0_part11_skel k0_part12_skel
  simp only [pure_bind, bind_assoc]
  simp only [k0_pay44, k0_pay45, k0_pay46, k0_pay47, k0_pay48, k0_pay49, k0_pay50, k0_pay51, k0_pay52, k0_pay53, k0_pay54,
    k0_pay55, k0_pay56, k0_pay57, k0_pay58, k0_pay59, k0_pay60, k0_pay61, k0_pay62, k0_pay63, k0_pay64, k0_pay65, k0_pay66,
    k0_pay67, k0_pay68, k0_pay69, k0_pay70, k0_pay71, k0_pay72, k0_pay73, k0_pay74, k0_pay75, k0_pay76, k0_pay77, k0_pay78,
    k0_pay79, k0_pay80, k0_pay81, k0_pay82, k0_pay83, k0_pay84, k0_pay85, k0_pay86, k0_pay87, k0_pay88, k0_pay89, k0_pay90,
    k0_pay91, k0_pay92, k0_pay93, k0_pay94, k0_pay95, k0_pay96, k0_pay97, k0_pay98, k0_pay99, k0_pay100, k0_pay101, k0_pay102,
    k0_pay103, k0_pay104, k0_pay105, k0_pay106, k0_pay107, k0_pay108, k0_pay109, k0_pay110, k0_pay111, k0_pay112, k0_pay113,
    k0_pay114, k0_pay115, k0_pay116, first_B, first_A, round_A, round_B, key_A, key_B, join_AB, Nat.reduceAdd, lft, rgt, keyA,
    keyB, keyN, Nat.reduceMod, Nat.reduceBEq, upM_fold, whM_fold, lane_fold, walk_first_v, walk_first_c, walk_next_v, walk_next_c, shapeCast_self]
  rfl

end Cert.KernelIdeal.Proof

end
-- ==== Proof.Sc.lean ====
/-
  The SparseCore call of the kernel: thirty-two tiles, each drawing one row's words, keeping the best, and writing the
  winning column to its own row of the call's result. What each tile leaves is named (`scOut`), so that the call's result
  is known whole.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.WritesUnit
public import proofs.«01_k».proof.Proof.Gen.KernelIdeal
public import proofs.«01_k».proof.Proof.Gen.KernelIdeal.Skeleton
public import proofs.«01_k».proof.Proof.Tile

@[expose] public section

noncomputable section

namespace Cert.KernelIdeal.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem scFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the TensorCore pipeline's rounds, the transfers' counters -/

abbrev UH : Type := URounds (GSem nD τ sig) ℕ
abbrev UP : Type := URounds (GSem nD τ sig) Unit
abbrev UU : Type := (UH × UP) × Counters

local notation "𝕄" => MT nD τ sig (HIx 1) (Elt F) ℕ UU ℕ

abbrev EH : Emb UH (MT nD τ sig (HIx 1) (Elt F) ℕ UU ℕ) := (Emb.inl : Emb UH (UH × UP)).trans embL
abbrev EP : Emb UP (MT nD τ sig (HIx 1) (Elt F) ℕ UU ℕ) := (Emb.inr : Emb UP (UH × UP)).trans embL

/-! ## The buffers -/

variable (m : (ℓ : Loc nD τ sig) → Buf (Elt F) ℓ) (ρ : Dev nD → PrngReg)

abbrev oLoc (d : Dev nD) : Loc nD τ sig := (SparseCore.T d).loc main_v0

local notation "oV" => (Memref.whole Cert.KernelIdeal.main_v0_scv : Memref Cert.KernelIdeal.sig Kind.scVector Space.hbm Cert.KernelIdeal.S32x16 EltTy.f32)
local notation "sV" => (Memref.whole Cert.KernelIdeal.cc0_scratch0 : Memref Cert.KernelIdeal.sig Kind.scVector Space.vmem Cert.KernelIdeal.S16 EltTy.f32)

theorem odiv : 32 ∣ S32x16.size 0 := ⟨1, rfl⟩
/-- Row `i` of the call's result. -/
abbrev orow (i : Fin 32) : Rect S32x16 := Rect.part (s := S32x16) (a₀ := 0) odiv i
abbrev oRowSet (i : Fin 32) : Finset S32x16.Idx := ((oV).view.slice (orow i)).set

/-- The grid point of core `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

theorem bound_zero : grid0.bound 0 = 2 := rfl
theorem bound_one : grid0.bound 1 = 16 := rfl
/-- The row of the grid point `L`. -/
def rowL (L : grid0.Coords) : Fin 32 :=
  ⟨2 * (L 1).val + (L 0).val, by have h1 : (L 1).val < 16 := (L 1).isLt; have h0 : (L 0).val < 2 := (L 0).isLt; omega⟩
/-- The grid point of row `r`. -/
def ptOf (r : Fin 32) : grid0.Coords :=
  coordsV ⟨r.val % 2, Nat.mod_lt _ (by decide)⟩ ⟨r.val / 2, by show _ < 16; omega⟩
theorem ptOf_rowL (L : grid0.Coords) : ptOf (rowL L) = L := by
  have h1 : (L 1).val < 16 := (L 1).isLt
  have h0 : (L 0).val < 2 := (L 0).isLt
  funext a
  match a with
  | 0 => apply Fin.ext; show (2 * (L 1).val + (L 0).val) % 2 = (L 0).val; omega
  | 1 => apply Fin.ext; show (2 * (L 1).val + (L 0).val) / 2 = (L 1).val; omega

/-- The lane of a sixteen-wide vector an element of the result's row holds. -/
def laneIx (x : Fin 16) : S16.Idx := fun | ⟨0, _⟩ => x

variable [FloatOps F]

/-- The call's result: row `r` is what the tile of row `r` stored. -/
def scOut : (⟨S32x16, .f32⟩ : BufTy).Contents (Elt F) := fun x => tileOut (F := F) (ptOf (x 0)) (laneIx (x 1))

/-! ## What the handshakes carry -/

abbrev oPts (d : Dev nD) (f : Buf (Elt F) (oLoc d)) : sProp 𝕄 := oLoc d ↦{fullShare} f
abbrev oRowPts (d : Dev nD) (i : Fin 32) (f : Buf (Elt F) (oLoc d)) : sProp 𝕄 := oLoc d ↦[oRowSet i]{fullShare} f
/-- The row of core `c`'s task `i`. -/
abbrev rowOf (c : Fin 2) (i : Fin 16) : Fin 32 := rowL (coordsV c i)

/-- Each SparseCore takes its sixteen rows of the result, each task its own row, and brings them back written. -/
def P : (K (F := F)).Pay (nD := nD) (Val := Elt F) (Name := ℕ) (U := UU) where
  st := fun q d c => match q with
    | 0 => bigSep Finset.univ fun i : Fin ((K (F := F)).nSub 0) => oRowPts d (rowOf (Fin.cast nCore_zero c) (Fin.cast nSub_zero i)) (m (oLoc d))
  dn := fun q d c => match q with
    | 0 => bigSep Finset.univ fun i : Fin ((K (F := F)).nSub 0) => oRowPts d (rowOf (Fin.cast nCore_zero c) (Fin.cast nSub_zero i)) scOut
  go := fun q d c i => match q with
    | 0 => oRowPts d (rowOf (Fin.cast nCore_zero c) (Fin.cast nSub_zero i)) (m (oLoc d))
  td := fun q d c i => match q with
    | 0 => oRowPts d (rowOf (Fin.cast nCore_zero c) (Fin.cast nSub_zero i)) scOut
  x := fun _ _ => iprop(emp)

instance P_storable : (P (F := F) m).IsStorable where
  st q d c := match q with
    | 0 => (inferInstance : BI.Storable (upEmb : UEmb _ 𝕄) (bigSep Finset.univ fun i : Fin ((K (F := F)).nSub 0) => oRowPts d (rowOf (Fin.cast nCore_zero c) (Fin.cast nSub_zero i)) (m (oLoc d))))
  dn q d c := match q with
    | 0 => (inferInstance : BI.Storable (upEmb : UEmb _ 𝕄) (bigSep Finset.univ fun i : Fin ((K (F := F)).nSub 0) => oRowPts d (rowOf (Fin.cast nCore_zero c) (Fin.cast nSub_zero i)) scOut))
  go q d c i := match q with
    | 0 => (inferInstance : BI.Storable (upEmb : UEmb _ 𝕄) (oRowPts d (rowOf (Fin.cast nCore_zero c) (Fin.cast nSub_zero i)) (m (oLoc d))))
  td q d c i := match q with
    | 0 => (inferInstance : BI.Storable (upEmb : UEmb _ 𝕄) (oRowPts (F := F) d (rowOf (Fin.cast nCore_zero c) (Fin.cast nSub_zero i)) scOut))

/-! ## The task -/

section Tile

variable (d : Dev nD) (L : grid0.Coords)

abbrev cV (L : grid0.Coords) : Fin τ.nSC := (L 0).castLE hcore0
abbrev jV (L : grid0.Coords) : Fin τ.nSub := (L 1).castLE hsub0

abbrev orowK (L : grid0.Coords) : Rect S32x16 := Rect.unit (s := S32x16) (k0_off1 L) S1x16.size (k0_off1_inb L)
/-- The tile's row of the result, as the task addresses it. -/
abbrev oRowK (L : grid0.Coords) : Memref sig .scVector .hbm S16 .f32 := ((oV).slice (orowK L) (fun _ => rfl)).squeeze S16 squeezes_S1x16_S16

omit [FloatOps F] in
theorem orowK_eq : orowK L = orow (rowL L) := by
  unfold orowK orow Rect.part Rect.block
  congr 1 <;> funext a
  · rw [k0_off1_eq]
    match a with
    | 0 => simp [Shape.partIx, Shape.partSize, rowL]
    | 1 => simp [Shape.partIx, Shape.partSize]
  · match a with
    | 0 => simp [Shape.partSize]
    | 1 => simp [Shape.partSize]

omit [FloatOps F] in
theorem set_oRowK : (oRowK L).view.set = oRowSet (rowL L) := by
  show (((oV).view.slice (orowK L)).reshape S16 squeezes_S1x16_S16.numel_eq).set = ((oV).view.slice (orow (rowL L))).set
  rw [View.set_reshape]
  exact orowK_eq L ▸ rfl

omit [FloatOps F] in
theorem pts_oRowK (f : Buf (Elt F) (oLoc d)) :
    ((oRowK L).view.loc (V d (cV L) (jV L)) ↦[(oRowK L).view.set]{fullShare} f : sProp 𝕄) = oLoc d ↦[oRowSet (rowL L)]{fullShare} f := by
  rw [set_oRowK]
omit [FloatOps F] in
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl

abbrev cAcell (d : Dev nD) (c : Fin τ.nSC) (i : Fin τ.nSub) : GSem nD τ sig := (V d c i, .dma cc0_scoped0.sem)

omit [FloatOps F] in
/-- The task's one transfer semaphore is among the subcore's own. -/
theorem ownSems0_V :
    (ownSems0 (V d (cV L) (jV L)) : sProp 𝕄)
      = iprop(semVal (cAcell d (cV L) (jV L)) 0 ∗ bigSep ((ownCells (V d (cV L) (jV L))).erase (cAcell d (cV L) (jV L))) fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩)]

omit [FloatOps F] in
/-- The scratch buffer is among the subcore's own. -/
theorem ownBufs_V :
    (ownBufs (V d (cV L) (jV L)) : sProp 𝕄)
      = iprop((∃ f, (V d (cV L) (jV L)).loc cc0_scratch0 ↦{fullShare} f)
          ∗ bigSep ((ownRefs (τ := τ) (.scVector (cV L) (jV L))).erase ((Proc.scVector (cV L) (jV L)).devRef cc0_scratch0))
              fun b => iprop(∃ f, ((d, b) : Loc nD τ sig) ↦{fullShare} f)) := by
  unfold SparseCore.Cfg.ownBufs
  exact SparseCore.bigSep_erase' (SparseCore.Cfg.mem_ownRefs_of_owner (p := Proc.scVector (cV L) (jV L))
    (b := (Proc.scVector (cV L) (jV L)).devRef cc0_scratch0) rfl)

omit [FloatOps F] in
/-- Lane `j` of the squeezed row sits at column `j` of the row. -/
theorem lane_place : ∀ j : S16.Idx, (Shape.reshapeEquiv squeezes_S1x16_S16.numel_eq j 0).val = 0
    ∧ (Shape.reshapeEquiv squeezes_S1x16_S16.numel_eq j 1).val = (j 0).val := by decide +kernel

/-- Storing `tileOut` over the tile's row leaves `scOut` there. -/
theorem row_value (f : Buf (Elt F) (oLoc d)) : ∀ x ∈ oRowSet (rowL L),
    ((oRowK L).view.writes (Elt F) f [⟨Rect.whole S16, tileOut (F := F) L⟩] : Buf (Elt F) (oLoc d)) x = scOut (F := F) x := by
  intro x hx
  rw [← set_oRowK] at hx
  obtain ⟨j, -, rfl⟩ := Finset.mem_map.mp hx
  have h := congrFun (View.read_writes_whole (Val := Elt F) (oRowK L).view f (tileOut (F := F) L)) j
  rw [View.read_apply, cast_eq] at h
  rw [h]
  have e0 : ((oRowK L).view.emb j 0).val = (rowL L).val := by
    show k0_off1 L 0 + 1 * (Shape.reshapeEquiv squeezes_S1x16_S16.numel_eq j 0).val = _
    rw [k0_off1_eq, (lane_place j).1]; rfl
  have e1 : ((oRowK L).view.emb j 1).val = (j 0).val := by
    show k0_off1 L 1 + 1 * (Shape.reshapeEquiv squeezes_S1x16_S16.numel_eq j 1).val = _
    rw [k0_off1_eq, (lane_place j).2]; show 0 + 1 * _ = _; omega
  unfold scOut
  rw [show (oRowK L).view.emb j 0 = rowL L from Fin.ext e0, ptOf_rowL]
  congr 1
  funext a
  match a with
  | ⟨0, _⟩ => exact Fin.ext e1.symm

set_option maxHeartbeats 4000000 in
/-- The task at grid point `L`: it leaves `scOut`'s row. -/
theorem tile_body (hF : (K (F := F)).Facts) (O : CellTallies nD τ sig (HIx 1)) (W : Waits sig (HIx 1)) (hO : ∀ g, O g none = 0) :
    iprop(levAts (K (F := F)).L (K (F := F)).lev ∗ emp
        ∗ oRowPts d (rowL L) (m (oLoc d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_k L oV (Memref.isWhole_whole _) sV (Memref.isWhole_whole _) cc0_scoped0)
          fun _ => iprop(oRowPts d (rowL L) scOut
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [tile_run]
  rw [(K (F := F)).scopedBufs_V hF d (cV L) (jV L), SparseCore.Cfg.scopedSems0_V (Val := Elt F) d (cV L) (jV L), ownSems0_V, ownBufs_V]
  iintro ⟨#Hlv, -, Ho, ⟨⟨%fs, Hs⟩, Hbufs⟩, ⟨HsemA, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Ho' := (Entails.of_eq (pts_oRowK (F := F) d L _).symm) $$ Ho
  ihave Hs' := (Entails.of_eq (pts_sV (F := F) d L _).symm) $$ Hs
  sl_exec
  sl_step
  isplitl [Ho']
  · iapply (Entails.of_eq (pointsTo_congr (row_value (F := F) d L (m (oLoc d)))))
    iapply (Entails.of_eq (pts_oRowK (F := F) d L _))
    have hv : tile_body.sl.dma2 d L fs = tileOut (F := F) L := by
      unfold tile_body.sl.dma2
      rw [ReadAs.apply_same]
      unfold tile_body.sl.Hs'_1
      funext y
      exact View.read_writes_cons_unit_of_mem _ _ inb_S16_S16_0 _ [] y y rfl fun a => by
        match a with | 0 => exact (Nat.zero_add _).symm
    rw [hv]
    iexact Ho'
  isplitl [Hs' Hbufs]
  · isplitl [Hs']; · iexists _; iexact Hs'
    iexact Hbufs
  isplitl [HsemA Hsems]
  · isplitl [HsemA]; · iexact HsemA
    iexact Hsems
  iexists _; isplitr
  swap; · iexact HO
  ipureintro; intro p hp
  rcases Finset.mem_insert.mp hp with hp | hp; · exact .inr (hp ▸ rfl)
  exact .inl hp

/-! ## The obligation -/

theorem defs₀_vector (c : Fin τ.nSC) (s : Fin τ.nSub) :
    defs₀ (F := F) (.scVector c s) 0 ()
      = SparseCore.onTile hcore0 hsub0 (fun c s => cc0_k (coordsV c s)
          oV (Memref.isWhole_whole _) sV (Memref.isWhole_whole _) cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF O W hO).trans (wp_mono frame _ _ fun _ => obl_post)

end Tile

/-! ## The rows split and join -/

omit [FloatOps F] in
theorem oRowSet_eq (i : Fin 32) : oRowSet i = (orow i).set := by
  show ((View.whole (main_v0_scv : Ref sig .scVector)).slice (orow i)).set = _
  rw [View.set_slice]; exact Finset.map_refl
omit [FloatOps F] in
theorem orows_disjoint : ∀ i ∈ (Finset.univ : Finset (Fin 32)), ∀ j ∈ (Finset.univ : Finset (Fin 32)), i ≠ j → Disjoint (oRowSet i) (oRowSet j) :=
  fun i _ j _ h => by rw [oRowSet_eq, oRowSet_eq]; exact Rect.part_disjoint odiv h
omit [FloatOps F] in
theorem orows_cover : (Finset.univ : Finset (Fin 32)).biUnion oRowSet = Finset.univ :=
  (Finset.biUnion_congr rfl fun i _ => oRowSet_eq i).trans (Rect.biUnion_part odiv)

omit [FloatOps F] in
theorem oPts_rows (d : Dev nD) (f : Buf (Elt F) (oLoc d)) :
    (oLoc d ↦{fullShare} f : sProp 𝕄) = bigSep Finset.univ fun i : Fin 32 => oLoc d ↦[oRowSet i]{fullShare} f := by
  rw [← pointsTo_biUnion Finset.univ (ℓ := oLoc d) oRowSet orows_disjoint, orows_cover]; try rfl

/-- Core and subcore, and the row they name. -/
def rowEquiv : Fin 2 × Fin 16 ≃ Fin 32 where
  toFun p := rowOf p.1 p.2
  invFun r := (⟨r.val % 2, Nat.mod_lt _ (by decide)⟩, ⟨r.val / 2, by omega⟩)
  left_inv p := by
    obtain ⟨c, i⟩ := p
    apply Prod.ext <;> apply Fin.ext
    · show (2 * i.val + c.val) % 2 = c.val; omega
    · show (2 * i.val + c.val) / 2 = i.val; omega
  right_inv r := by apply Fin.ext; show 2 * (r.val / 2) + r.val % 2 = r.val; omega

omit [FloatOps F] in
/-- The result whole is its rows, core by core and task by task. -/
theorem oPts_cores (d : Dev nD) (f : Buf (Elt F) (oLoc d)) :
    (oLoc d ↦{fullShare} f : sProp 𝕄)
      = bigSep Finset.univ fun c : Fin ((K (F := F)).nCore 0) => bigSep Finset.univ fun i : Fin ((K (F := F)).nSub 0) =>
          oRowPts d (rowOf (Fin.cast nCore_zero c) (Fin.cast nSub_zero i)) f := by
  rw [oPts_rows, bigSep_univ_equiv rowEquiv, bigSep_univ_prod]
  rfl

theorem vecSplit : (K (F := F)).VecSplit' (P m) 0 := by
  intro d c
  show (bigSep Finset.univ fun i : Fin ((K (F := F)).nSub 0) => oRowPts d (rowOf (Fin.cast nCore_zero c) (Fin.cast nSub_zero i)) (m (oLoc d)))
    ⊢ |={Set.univ}=> iprop((bigSep Finset.univ fun i : Fin ((K (F := F)).nSub 0) => oRowPts d (rowOf (Fin.cast nCore_zero c) (Fin.cast nSub_zero i)) (m (oLoc d)))
      ∗ ((bigSep Finset.univ fun i : Fin ((K (F := F)).nSub 0) => oRowPts d (rowOf (Fin.cast nCore_zero c) (Fin.cast nSub_zero i)) scOut)
          -∗ (bigSep Finset.univ fun i : Fin ((K (F := F)).nSub 0) => oRowPts d (rowOf (Fin.cast nCore_zero c) (Fin.cast nSub_zero i)) scOut)))
  iintro H; imodintro
  isplitl [H]; · iexact H
  iintro H; iexact H

end Cert.KernelIdeal.Proof

end
-- ==== Proof.Block.lean ====
/-
  The body the TensorCore runs at a grid point, as a straight line: what it draws for its eight rows 512 columns at a time,
  the best it keeps per lane, the best of the 512 lanes, and the one block it stores (`blockOut`).
-/
module

public import Idealize.ShloMosaic.Lib.Pipeline.Value
public import proofs.«01_k».proof.Proof.Best
public import proofs.«01_k».proof.Proof.Gen.KernelIdeal.Skeleton

@[expose] public section

noncomputable section

namespace Cert.KernelIdeal.Proof

open Idealize.ShloMosaic Idealize.SL.Sem
open Cert.Proof Cert.KernelIdeal Cert.KernelIdeal.Gen

variable {F : FTy → Type} [FloatOps F]

/-- The column of every lane within its group of 512. -/
abbrev blockCol : IVec S8x512 32 := iota .tc S8x512 32 [1] iota_S8x512_d1_w32

/-- The draws of a block's eight rows on 512 columns, from column `x` on. -/
def blockDraw (i : grid1.Coords) (x : BitVec 32) : IVec S8x512 32 := drawV (addi (k1_pay345 i) (broadcast S8x512 x))

/-- One group of 512 of the block's loop, the `u`-th of trip `t`. -/
def blockOne (i : grid1.Coords) (t : ℕ) (u c : BitVec 32) : IVec S8x512 32 × IVec S8x512 32 → IVec S8x512 32 × IVec S8x512 32 :=
  bestV (Scalar.addi (Scalar.muli (BitVec.ofNat 32 t) 8#32) u) (blockDraw i (Scalar.addi (Scalar.muli (BitVec.ofNat 32 t) 4096#32) c))

/-- One trip of the block's loop: eight groups. -/
def blockStep (i : grid1.Coords) (t : ℕ) (p : IVec S8x512 32 × IVec S8x512 32) : IVec S8x512 32 × IVec S8x512 32 :=
  blockOne i t 7#32 3584#32 (blockOne i t 6#32 3072#32 (blockOne i t 5#32 2560#32 (blockOne i t 4#32 2048#32
    (blockOne i t 3#32 1536#32 (blockOne i t 2#32 1024#32 (blockOne i t 1#32 512#32 (blockOne i t 0#32 0#32 p)))))))

set_option maxRecDepth 65536 in
/-- The loop's printed trip computes `blockStep`. -/
theorem block_trip (i : grid1.Coords) (arg1 : Memref sig .tc .vmem S8x128 .f32) (harg1 : arg1.IsWhole)
    (t : Fin k1_t1_loop.trips) (p : IVec S8x512 32 × IVec S8x512 32) :
    k1_t1_body (F := F) i arg1 harg1 t p = pure (blockStep i t.val p) := by
  rw [k1_t1_body,
    k1_part1_eq_skeleton, k1_part2_eq_skeleton, k1_part3_eq_skeleton, k1_part4_eq_skeleton, k1_part5_eq_skeleton,
    k1_part6_eq_skeleton, k1_part7_eq_skeleton, k1_part8_eq_skeleton, k1_part9_eq_skeleton, k1_part10_eq_skeleton,
    k1_part11_eq_skeleton, k1_part12_eq_skeleton, k1_part13_eq_skeleton, k1_part14_eq_skeleton, k1_part15_eq_skeleton,
    k1_part16_eq_skeleton, k1_part17_eq_skeleton, k1_part18_eq_skeleton, k1_part19_eq_skeleton, k1_part20_eq_skeleton,
    k1_part21_eq_skeleton, k1_part22_eq_skeleton, k1_part23_eq_skeleton, k1_part24_eq_skeleton, k1_part25_eq_skeleton,
    k1_part26_eq_skeleton, k1_part27_eq_skeleton, k1_part28_eq_skeleton, k1_part29_eq_skeleton, k1_part30_eq_skeleton,
    k1_part31_eq_skeleton, k1_part32_eq_skeleton]
  unfold k1_part1_skel k1_part2_skel k1_part3_skel k1_part4_skel k1_part5_skel k1_part6_skel k1_part7_skel k1_part8_skel
    k1_part9_skel k1_part10_skel k1_part11_skel k1_part12_skel k1_part13_skel k1_part14_skel k1_part15_skel
    k1_part16_skel k1_part17_skel k1_part18_skel k1_part19_skel k1_part20_skel k1_part21_skel k1_part22_skel
    k1_part23_skel k1_part24_skel k1_part25_skel k1_part26_skel k1_part27_skel k1_part28_skel k1_part29_skel
    k1_part30_skel k1_part31_skel k1_part32_skel
  simp only [pure_bind]
  simp only [
    k1_pay1, k1_pay2, k1_pay3, k1_pay4, k1_pay5, k1_pay6, k1_pay7, k1_pay8, k1_pay9, k1_pay10, k1_pay11, k1_pay12, k1_pay13,
    k1_pay14, k1_pay15, k1_pay16, k1_pay17, k1_pay18, k1_pay19, k1_pay20, k1_pay21, k1_pay22, k1_pay23, k1_pay24, k1_pay25,
    k1_pay26, k1_pay27, k1_pay28, k1_pay29, k1_pay30, k1_pay31, k1_pay32, k1_pay33, k1_pay34, k1_pay35, k1_pay36, k1_pay37,
    k1_pay38, k1_pay39, k1_pay40, k1_pay41, k1_pay42, k1_pay43, k1_pay44, k1_pay45, k1_pay46, k1_pay47, k1_pay48, k1_pay49,
    k1_pay50, k1_pay51, k1_pay52, k1_pay53, k1_pay54, k1_pay55, k1_pay56, k1_pay57, k1_pay58, k1_pay59, k1_pay60, k1_pay61,
    k1_pay62, k1_pay63, k1_pay64, k1_pay65, k1_pay66, k1_pay67, k1_pay68, k1_pay69, k1_pay70, k1_pay71, k1_pay72, k1_pay73,
    k1_pay74, k1_pay75, k1_pay76, k1_pay77, k1_pay78, k1_pay79, k1_pay80, k1_pay81, k1_pay82, k1_pay83, k1_pay84, k1_pay85,
    k1_pay86, k1_pay87, k1_pay88, k1_pay89, k1_pay90, k1_pay91, k1_pay92, k1_pay93, k1_pay94, k1_pay95, k1_pay96, k1_pay97,
    k1_pay98, k1_pay99, k1_pay100, k1_pay101, k1_pay102, k1_pay103, k1_pay104, k1_pay105, k1_pay106, k1_pay107, k1_pay108,
    k1_pay109, k1_pay110, k1_pay111, k1_pay112, k1_pay113, k1_pay114, k1_pay115, k1_pay116, k1_pay117, k1_pay118, k1_pay119,
    k1_pay120, k1_pay121, k1_pay122, k1_pay123, k1_pay124, k1_pay125, k1_pay126, k1_pay127, k1_pay128, k1_pay129, k1_pay130,
    k1_pay131, k1_pay132, k1_pay133, k1_pay134, k1_pay135, k1_pay136, k1_pay137, k1_pay138, k1_pay139, k1_pay140, k1_pay141,
    k1_pay142, k1_pay143, k1_pay144, k1_pay145, k1_pay146, k1_pay147, k1_pay148, k1_pay149, k1_pay150, k1_pay151, k1_pay152,
    k1_pay153, k1_pay154, k1_pay155, k1_pay156, k1_pay157, k1_pay158, k1_pay159, k1_pay160, k1_pay161, k1_pay162, k1_pay163,
    k1_pay164, k1_pay165, k1_pay166, k1_pay167, k1_pay168, k1_pay169, k1_pay170, k1_pay171, k1_pay172, k1_pay173, k1_pay174,
    k1_pay175, k1_pay176, k1_pay177, k1_pay178, k1_pay179, k1_pay180, k1_pay181, k1_pay182, k1_pay183, k1_pay184, k1_pay185,
    k1_pay186, k1_pay187, k1_pay188, k1_pay189, k1_pay190, k1_pay191, k1_pay192, k1_pay193, k1_pay194, k1_pay195, k1_pay196,
    k1_pay197, k1_pay198, k1_pay199, k1_pay200, k1_pay201, k1_pay202, k1_pay203, k1_pay204, k1_pay205, k1_pay206, k1_pay207,
    k1_pay208, k1_pay209, k1_pay210, k1_pay211, k1_pay212, k1_pay213, k1_pay214, k1_pay215, k1_pay216, k1_pay217, k1_pay218,
    k1_pay219, k1_pay220, k1_pay221, k1_pay222, k1_pay223, k1_pay224, k1_pay225, k1_pay226, k1_pay227, k1_pay228, k1_pay229,
    k1_pay230, k1_pay231, k1_pay232, k1_pay233, k1_pay234, k1_pay235, k1_pay236, k1_pay237, k1_pay238, k1_pay239, k1_pay240,
    k1_pay241, k1_pay242, k1_pay243, k1_pay244, k1_pay245, k1_pay246, k1_pay247, k1_pay248, k1_pay249, k1_pay250, k1_pay251,
    k1_pay252, k1_pay253, k1_pay254, k1_pay255, k1_pay256, k1_pay257, k1_pay258, k1_pay259, k1_pay260, k1_pay261, k1_pay262,
    k1_pay263, k1_pay264, k1_pay265, k1_pay266, k1_pay267, k1_pay268, k1_pay269, k1_pay270, k1_pay271, k1_pay272, k1_pay273,
    k1_pay274, k1_pay275, k1_pay276, k1_pay277, k1_pay278, k1_pay279, k1_pay280, k1_pay281, k1_pay282, k1_pay283, k1_pay284,
    k1_pay285, k1_pay286, k1_pay287, k1_pay288, k1_pay289, k1_pay290, k1_pay291, k1_pay292, k1_pay293, k1_pay294, k1_pay295,
    k1_pay296, k1_pay297, k1_pay298, k1_pay299, k1_pay300, k1_pay301, k1_pay302, k1_pay303, k1_pay304, k1_pay305, k1_pay306,
    k1_pay307, k1_pay308, k1_pay309, k1_pay310, k1_pay311, k1_pay312, k1_pay313, k1_pay314, k1_pay315, k1_pay316, k1_pay317,
    k1_pay318, k1_pay319, k1_pay320, k1_pay321, k1_pay322, k1_pay323, k1_pay324, k1_pay325, k1_pay326, k1_pay327, k1_pay328,
    k1_pay329, k1_pay330, k1_pay331, k1_pay332, k1_pay333, k1_pay334, k1_pay335, k1_pay336, k1_pay337, k1_pay338, k1_pay339,
    k1_pay340, k1_pay341, k1_pay342, k1_pay343, k1_pay344, k1_pay348, k1_pay349, k1_pay350,
    k1_pay351,
    first_B, first_A, round_A, round_B, key_A, key_B, join_AB, Nat.reduceAdd, lft, rgt, keyA, keyB, keyN, Nat.reduceMod,
    Nat.reduceBEq, iv_one, up_fold, wh_fold, blockStep, blockOne, bestV, blockDraw]

/-- The last group's columns, -/
def lastCol (c : BitVec 32) : IVec S8x512 32 := addi blockCol (broadcast S8x512 (Scalar.addi 98304#32 c))

/-- and one group of 512 of it, of which the columns up to 100000 take part. -/
def lastOne (i : grid1.Coords) (n c : BitVec 32) : IVec S8x512 32 × IVec S8x512 32 → IVec S8x512 32 × IVec S8x512 32 :=
  bestM (cmpi .ule (lastCol c) (broadcast S8x512 100000#32)) n (blockDraw i (Scalar.addi 98304#32 c))

/-- Every lane's best after the loop and the last, masked trip: values and group numbers. -/
def blockBest (i : grid1.Coords) : IVec S8x512 32 × IVec S8x512 32 :=
  lastOne i 199#32 3584#32 (lastOne i 198#32 3072#32 (lastOne i 197#32 2560#32 (lastOne i 196#32 2048#32
    (lastOne i 195#32 1536#32 (lastOne i 194#32 1024#32 (lastOne i 193#32 512#32 (lastOne i 192#32 0#32
      (runN (blockStep i) (k1_pay346, k1_pay347) k1_t1_loop.trips))))))))

/-- Every lane's column. -/
def blockCols (i : grid1.Coords) : IVec S8x512 32 := addi (muli (blockBest i).2 (broadcast S8x512 512#32)) blockCol

/-- The largest value of each row, -/
def blockMax (i : grid1.Coords) : IVec S8 32 :=
  multiReductionI .maxsi [1] S8 (blockBest i).1 2147483648#32 reduces_S8x512_S8 rfl

/-- the smallest column that has it, -/
def blockIdx (i : grid1.Coords) : IVec S8 32 :=
  multiReductionI .minsi [1] S8
    (select (cmpi .eq (blockBest i).1 (broadcastTo S8x512 (shapeCast S8x1 (blockMax i) shapeCasts_S8_S8x1) broadcasts_S8x1_S8x512))
      (blockCols i) (broadcast S8x512 2147483647#32)) 2147483647#32 reduces_S8x512_S8 rfl

/-- and what the body stores: each row's column as a float, along the row. -/
def blockOut (i : grid1.Coords) : FVec F S8x128 .f32 :=
  broadcastTo S8x128 (sitofp .f32 (shapeCast S8x1 (blockIdx i) shapeCasts_S8_S8x1)) broadcasts_S8x1_S8x128

set_option maxRecDepth 65536 in
/-- The part of the body with the loop: the lanes' best after the 24 full trips, and the last trip's first operations. -/
theorem block_loop (i : grid1.Coords) (arg1 : Memref sig .tc .vmem S8x128 .f32) (harg1 : arg1.IsWhole) :
    k1_part33 (F := F) i arg1 harg1
      = pure ⟨blockCol, k1_pay345 i, (runN (blockStep i) (k1_pay346, k1_pay347) k1_t1_loop.trips).1,
          (runN (blockStep i) (k1_pay346, k1_pay347) k1_t1_loop.trips).2, k1_pay352, k1_pay357 i, k1_pay358 i⟩ := by
  rw [k1_part33_eq_skeleton, k1_part33_skel]
  have h := for_pure k1_t1_loop k1_t1_ok (k1_t1_body (F := F) i arg1 harg1) (blockStep i) (k1_pay346, k1_pay347) (block_trip i arg1 harg1)
  rw [h]
  rfl

set_option maxRecDepth 65536 in
/-- The body as its memory operations: the block is read and `blockOut` stored over it. -/
theorem block_run (i : grid1.Coords) (arg1 : Memref sig .tc .vmem S8x128 .f32) (harg1 : arg1.IsWhole) :
    cc1__tc_body (F := F) i arg1 harg1 = (do
      let _ ← Prog.lift (.load arg1 (Rect.unit (s := S8x128) ![0, 0] S8x128.size inb_S8x128_S8x128_0_0).toLoadRect (View.loadsAt_vmem h_S8x128))
      Prog.lift (.store arg1 (Rect.unit (s := S8x128) ![0, 0] S8x128.size inb_S8x128_S8x128_0_0) (blockOut (F := F) i) Finset.univ (View.stores_vmem_bits_univ h_S8x128 rfl) (.inl rfl))
      pure ⟨⟩) := by
  rw [cc1__tc_body_eq_skeleton, cc1__tc_body_skel, block_loop,
    k1_part34_eq_skeleton, k1_part35_eq_skeleton, k1_part36_eq_skeleton, k1_part37_eq_skeleton, k1_part38_eq_skeleton,
    k1_part39_eq_skeleton, k1_part40_eq_skeleton, k1_part41_eq_skeleton, k1_part42_eq_skeleton, k1_part43_eq_skeleton,
    k1_part44_eq_skeleton, k1_part45_eq_skeleton, k1_part46_eq_skeleton, k1_part47_eq_skeleton, k1_part48_eq_skeleton,
    k1_part49_eq_skeleton, k1_part50_eq_skeleton, k1_part51_eq_skeleton, k1_part52_eq_skeleton, k1_part53_eq_skeleton,
    k1_part54_eq_skeleton, k1_part55_eq_skeleton, k1_part56_eq_skeleton, k1_part57_eq_skeleton, k1_part58_eq_skeleton,
    k1_part59_eq_skeleton, k1_part60_eq_skeleton, k1_part61_eq_skeleton, k1_part62_eq_skeleton, k1_part63_eq_skeleton,
    k1_part64_eq_skeleton, k1_part65_eq_skeleton, k1_part66_eq_skeleton]
  unfold k1_part34_skel k1_part35_skel k1_part36_skel k1_part37_skel k1_part38_skel k1_part39_skel k1_part40_skel
    k1_part41_skel k1_part42_skel k1_part43_skel k1_part44_skel k1_part45_skel k1_part46_skel k1_part47_skel
    k1_part48_skel k1_part49_skel k1_part50_skel k1_part51_skel k1_part52_skel k1_part53_skel k1_part54_skel
    k1_part55_skel k1_part56_skel k1_part57_skel k1_part58_skel k1_part59_skel k1_part60_skel k1_part61_skel
    k1_part62_skel k1_part63_skel k1_part64_skel k1_part65_skel k1_part66_skel
  simp only [pure_bind]
  simp only [
    k1_pay352, k1_pay353, k1_pay354, k1_pay355, k1_pay356, k1_pay357, k1_pay358, k1_pay359, k1_pay360, k1_pay361, k1_pay362,
    k1_pay363, k1_pay364, k1_pay365, k1_pay366, k1_pay367, k1_pay368, k1_pay369, k1_pay370, k1_pay371, k1_pay372, k1_pay373,
    k1_pay374, k1_pay375, k1_pay376, k1_pay377, k1_pay378, k1_pay379, k1_pay380, k1_pay381, k1_pay382, k1_pay383, k1_pay384,
    k1_pay385, k1_pay386, k1_pay387, k1_pay388, k1_pay389, k1_pay390, k1_pay391, k1_pay392, k1_pay393, k1_pay394, k1_pay395,
    k1_pay396, k1_pay397, k1_pay398, k1_pay399, k1_pay400, k1_pay401, k1_pay402, k1_pay403, k1_pay404, k1_pay405, k1_pay406,
    k1_pay407, k1_pay408, k1_pay409, k1_pay410, k1_pay411, k1_pay412, k1_pay413, k1_pay414, k1_pay415, k1_pay416, k1_pay417,
    k1_pay418, k1_pay419, k1_pay420, k1_pay421, k1_pay422, k1_pay423, k1_pay424, k1_pay425, k1_pay426, k1_pay427, k1_pay428,
    k1_pay429, k1_pay430, k1_pay431, k1_pay432, k1_pay433, k1_pay434, k1_pay435, k1_pay436, k1_pay437, k1_pay438, k1_pay439,
    k1_pay440, k1_pay441, k1_pay442, k1_pay443, k1_pay444, k1_pay445, k1_pay446, k1_pay447, k1_pay448, k1_pay449, k1_pay450,
    k1_pay451, k1_pay452, k1_pay453, k1_pay454, k1_pay455, k1_pay456, k1_pay457, k1_pay458, k1_pay459, k1_pay460, k1_pay461,
    k1_pay462, k1_pay463, k1_pay464, k1_pay465, k1_pay466, k1_pay467, k1_pay468, k1_pay469, k1_pay470, k1_pay471, k1_pay472,
    k1_pay473, k1_pay474, k1_pay475, k1_pay476, k1_pay477, k1_pay478, k1_pay479, k1_pay480, k1_pay481, k1_pay482, k1_pay483,
    k1_pay484, k1_pay485, k1_pay486, k1_pay487, k1_pay488, k1_pay489, k1_pay490, k1_pay491, k1_pay492, k1_pay493, k1_pay494,
    k1_pay495, k1_pay496, k1_pay497, k1_pay498, k1_pay499, k1_pay500, k1_pay501, k1_pay502, k1_pay503, k1_pay504, k1_pay505,
    k1_pay506, k1_pay507, k1_pay508, k1_pay509, k1_pay510, k1_pay511, k1_pay512, k1_pay513, k1_pay514, k1_pay515, k1_pay516,
    k1_pay517, k1_pay518, k1_pay519, k1_pay520, k1_pay521, k1_pay522, k1_pay523, k1_pay524, k1_pay525, k1_pay526, k1_pay527,
    k1_pay528, k1_pay529, k1_pay530, k1_pay531, k1_pay532, k1_pay533, k1_pay534, k1_pay535, k1_pay536, k1_pay537, k1_pay538,
    k1_pay539, k1_pay540, k1_pay541, k1_pay542, k1_pay543, k1_pay544, k1_pay545, k1_pay546, k1_pay547, k1_pay548, k1_pay549,
    k1_pay550, k1_pay551, k1_pay552, k1_pay553, k1_pay554, k1_pay555, k1_pay556, k1_pay557, k1_pay558, k1_pay559, k1_pay560,
    k1_pay561, k1_pay562, k1_pay563, k1_pay564, k1_pay565, k1_pay566, k1_pay567, k1_pay568, k1_pay569, k1_pay570, k1_pay571,
    k1_pay572, k1_pay573, k1_pay574, k1_pay575, k1_pay576, k1_pay577, k1_pay578, k1_pay579, k1_pay580, k1_pay581, k1_pay582,
    k1_pay583, k1_pay584, k1_pay585, k1_pay586, k1_pay587, k1_pay588, k1_pay589, k1_pay590, k1_pay591, k1_pay592, k1_pay593,
    k1_pay594, k1_pay595, k1_pay596, k1_pay597, k1_pay598, k1_pay599, k1_pay600, k1_pay601, k1_pay602, k1_pay603, k1_pay604,
    k1_pay605, k1_pay606, k1_pay607, k1_pay608, k1_pay609, k1_pay610, k1_pay611, k1_pay612, k1_pay613, k1_pay614, k1_pay615,
    k1_pay616, k1_pay617, k1_pay618, k1_pay619, k1_pay620, k1_pay621, k1_pay622, k1_pay623, k1_pay624, k1_pay625, k1_pay626,
    k1_pay627, k1_pay628, k1_pay629, k1_pay630, k1_pay631, k1_pay632, k1_pay633, k1_pay634, k1_pay635, k1_pay636, k1_pay637,
    k1_pay638, k1_pay639, k1_pay640, k1_pay641, k1_pay642, k1_pay643, k1_pay644, k1_pay645, k1_pay646, k1_pay647, k1_pay648,
    k1_pay649, k1_pay650, k1_pay651, k1_pay652, k1_pay653, k1_pay654, k1_pay655, k1_pay656, k1_pay657, k1_pay658, k1_pay659,
    k1_pay660, k1_pay661, k1_pay662, k1_pay663, k1_pay664, k1_pay665, k1_pay666, k1_pay667, k1_pay668, k1_pay669, k1_pay670,
    k1_pay671, k1_pay672, k1_pay673, k1_pay674, k1_pay675, k1_pay676, k1_pay677, k1_pay678, k1_pay679, k1_pay680, k1_pay681,
    k1_pay682, k1_pay683, k1_pay684, k1_pay685, k1_pay686, k1_pay687, k1_pay688, k1_pay689, k1_pay690, k1_pay691, k1_pay692,
    k1_pay693, k1_pay694, k1_pay695, k1_pay696, k1_pay697, k1_pay698, k1_pay699,
    first_B, first_A, round_A, round_B, key_A, key_B, join_AB, Nat.reduceAdd, lft, rgt, keyA, keyB, keyN, Nat.reduceMod,
    Nat.reduceBEq, upM_fold, whM_fold, shapeCast_self]
  simp only [blockOut, blockIdx, blockMax, blockCols, blockBest, lastOne, bestM, lastCol, blockDraw]
  rfl

end Cert.KernelIdeal.Proof

end
-- ==== Proof.Region.lean ====
/-
  The kernel's TensorCore call: twelve grid points, each storing eight rows' winning columns over its own block of the
  call's result. The result is named whole (`tcOut`), and the call is stated as one step of the host program, from all
  its arrays to all its arrays with the result written.
-/
module

public import Idealize.ShloMosaic.Lib.Pipeline.RegionsLoop
public import Idealize.ShloMosaic.Lib.Pipeline.Value
public import Idealize.ShloMosaic.Lib.Pipeline.ValueKit.Geometry
public import proofs.«01_k».proof.Proof.Gen.KernelIdeal.Launch
public import proofs.«01_k».proof.Proof.Gen.KernelIdeal.Points
public import proofs.«01_k».proof.Proof.Sc
public import proofs.«01_k».proof.Proof.Block

@[expose] public section

noncomputable section

namespace Cert.KernelIdeal.Proof

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig (HIx 1) (Elt F) ℕ UU ℕ

/-! ## The body at a point -/

/-- One run of the body over a staging buffer leaves it reading `blockOut`. -/
theorem block_body (c : Dev nD) (i : grid1.Coords) (M : Memref sig .tc .vmem S8x128 .f32) (hM : M.IsWhole)
    (d : S8x128.Idx → Elt F .f32) (Q : PUnit → sProp 𝕄) :
    iprop((owns (c : Thread nD τ) M fullShare d : sProp 𝕄)
        ∗ (owns (c : Thread nD τ) M fullShare (blockOut (F := F) i) -∗ Q ⟨⟩))
      ⊢ wp frame (wpE (defs₀ (F := F)) 𝒱₀ (c : Thread nD τ) none) Set.univ (cc1__tc_body (F := F) i M hM) Q := by
  rw [block_run]
  unfold owns
  iintro ⟨⟨%f, -, H⟩, Hk⟩
  sl_exec
  sl_step
  iapply Hk
  iexists _
  isplitr
  swap; · iexact H
  ipureintro
  funext y
  exact View.read_writes_cons_unit_of_mem _ _ inb_S8x128_S8x128_0_0 _ [] y y rfl fun a => by
    match a with
    | 0 => exact (Nat.zero_add _).symm
    | 1 => exact (Nat.zero_add _).symm

/-! ## The call's result -/

/-- The grid point of block `r`. -/
def gridPt (r : Fin 12) : grid1.Coords := fun | ⟨0, _⟩ => r

/-- The call's result: row `r` is row `r mod 8` of what the point of block `r / 8` stored. -/
def tcOut : (⟨S96x128, .f32⟩ : BufTy).Contents (Elt F) := fun x =>
  blockOut (F := F) (gridPt ⟨(x 0).val / 8, by have h : (x 0).val < 96 := (x 0).isLt; omega⟩)
    (fun | ⟨0, _⟩ => (⟨(x 0).val % 8, Nat.mod_lt _ (by decide)⟩ : Fin 8) | ⟨1, _⟩ => x 1)

/-! ## The call's proof data, entered with the arrays at `V` -/

variable (V : (c : Dev nD) → (b : Ref sig .tc) → Buf (Elt F) ((c : Thread nD τ).loc b))

/-- The pairs of waits a TensorCore may have recorded once its one SparseCore call is over. -/
def waited (c : Dev nD) : Set (SemLoc sig × HIx 1) :=
  {p | (K (F := F)).lev ((c : Thread nD τ), p.1) p.2 ≤ 8 * (inferInstance : SparseCore.Cfg.Blocks 1 1).fst 1}

/-- The call's proof data: the result at its contents on entry; after the body at `t`, the staging buffer at
    `blockOut`; no invariant; nothing owed. -/
def dat (c : Dev nD) : Dat τ (Elt F) (HIx 1) ℕ UU ℕ cfg1 c where
  A w := V c (Pipeline.arrRef spec1 w)
  after w t := match w with
    | ⟨0, _⟩ => blockOut (F := F) (grid1.coords t)
  Φ _ := BI.emp
  q _ := fullShare
  owed _ := 0
  recorded _ := waited (F := F) c

/-- No table is prefetched. -/
abbrev adm : (p : Fin 1) → (pcfgs (F := F) p).Adm := fun p => (cfgs p).toPCfg_adm

def pdats : (p : Fin 1) → (c : Dev nD) → Dat τ (Elt F) (HIx 1) ℕ UU ℕ (Pipeline.pin (pcfgs (F := F)) adm p) c
  | ⟨0, _⟩ => fun c => dat V c

/-- The body's obligation at every point. -/
theorem body_obligation (c : Dev nD) :
    Pipeline.BodyObligation (dat V c) (defs₀ (F := F)) 𝒱₀ (none : HIx 1) Set.univ := fun t => by
  rw [bigSep_W1, bigSep_W1]
  rw [show (dat V c).Φ t.castSucc = BI.emp from rfl, show (dat V c).Φ t.succ = BI.emp from rfl,
    show (dat V c).owesAt (none : HIx 1) t.succ = (dat V c).owesAt none t.castSucc from rfl]
  iintro ⟨HΦ, Howes, ⟨%d0, H0⟩⟩
  iapply (block_body c (grid1.coords t) ((cfg1.win 0).stage (cfg1.slots t 0)) (hstage1_0 ((cfg1.slots t 0).cast nbuf1_0)) _ _)
  isplitl [H0]; · iexact H0
  iintro H0
  isplitl [HΦ]; · iexact HΦ
  isplitl [Howes]; · iexact Howes
  iexact H0

theorem index_eq : ∀ t : Fin cfg1.N, win1_0.index t = ![(grid1.coords t 0).val, 0] :=
  (by decide +kernel : ∀ t : Fin grid1.N, _)

/-- The result's contents after the region. -/
theorem result_eq (c : Dev nD) : (dat V c).arrAt 0 cfg1.N = (tcOut (F := F) : Buf (Elt F) ((c : Thread nD τ).loc main_v3)) := by
  refine (dat V c).arrAt_eq_of_covers 0 _ (by decide +kernel) fun t hf y => ?_
  blk_simp
  show blockOut (F := F) (grid1.coords t) y = tcOut (F := F) ((win1_0.blk t).view.emb y)
  have h0 : ((win1_0.blk t).view.emb y 0 : ℕ) = (grid1.coords t 0).val * 8 + (y 0).val := by
    blk_simp [index_eq t]
  have h1 : ((win1_0.blk t).view.emb y 1 : ℕ) = (y 1).val := by
    blk_simp [index_eq t]
  have hy : (y 0).val < 8 := (y 0).isLt
  unfold tcOut
  congr 1
  · funext a
    match a with
    | ⟨0, _⟩ => apply Fin.ext; show (grid1.coords t 0).val = ((win1_0.blk t).view.emb y 0 : ℕ) / 8; rw [h0]; omega
  · funext a
    match a with
    | ⟨0, _⟩ => apply Fin.ext; show (y 0).val = ((win1_0.blk t).view.emb y 0 : ℕ) % 8; rw [h0]; omega
    | ⟨1, _⟩ => exact Fin.ext h1.symm

/-! ## The region -/

variable (Vp : (c : Dev nD) → (b : Ref sig .tc) → Buf (Elt F) ((c : Thread nD τ).loc b))

-- the library's lemmas are stated at the pinned configuration, which unfolds to the program's own
set_option backward.isDefEq.respectTransparency.types false in
/-- The call as a region of the host program: from every array at `V`, the core owing nothing, to every array at `Vp`,
    which is `V` with the result at `tcOut`. -/
def reg (hout : ∀ c, Vp c main_v3 = tcOut (F := F)) (hne : ∀ c (b : Ref sig .tc), b ≠ main_v3 → Vp c b = V c b) :
    Pipeline.RegionSeg (pcfgs (F := F)) adm (pdats V) (none : HIx 1) defs₀ 𝒱₀ (K (F := F)).L (K (F := F)).lev 0 where
  win := (launch1).win.to₀
  block_pos := (launch1).block_pos
  stage_whole := (launch1).stage_whole
  K := PEmpty
  osem k := k.elim
  ho := Pipeline.OwnSemFacts.none _
  hbody c := (body_obligation V c).loose
  hwaits := Pipeline.hwaits_of_owed_zero _ _ _ _ (K (F := F)).L (K (F := F)).lev 0 fun _ _ => rfl
  pre c := iprop(unscopedBufs c (V c) ∗ ∃ W, ⌜(K (F := F)).WBelow (c : Thread nD τ) W (8 * (inferInstance : SparseCore.Cfg.Blocks 1 1).fst 1)⌝
    ∗ owes (c : Thread nD τ) (0 : CellTallies nD τ sig (HIx 1)) W)
  post c := iprop(unscopedBufs c (Vp c) ∗ ∃ W, ⌜(K (F := F)).WBelow (c : Thread nD τ) W (8 * (inferInstance : SparseCore.Cfg.Blocks 1 1).fst 1)⌝
    ∗ owes (c : Thread nD τ) (0 : CellTallies nD τ sig (HIx 1)) W)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats V) (launch1).win (launch1).arr_whole c
      ((pdats V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V 0 c).Φ 0 = BI.emp from rfl]
    iintro -; iempintro
  hout c := by
    rw [Pipeline.ownSems0_none, show (pdats V 0 c).Φ (Fin.last _) = BI.emp from rfl, scopedRest1_eq]
    iintro -
    isplitr; · iempintro
    isplitr <;> iempintro
  hexit c := by
    have hjoin := Pipeline.unscopedBufs_of_arrays (p := 0) (pcfgs (F := F)) adm (Ix := HIx 1) (Name := ℕ) (U := UU) (Lvl := ℕ) (launch1).win (launch1).arr_whole c
      (pdats V) ((pdats V 0 c).share_full fun _ => rfl) (V c) (Vp c) ((pdats V 0 c).arrAt · cfg1.N)
      (fun w => by
        match w with
        | ⟨0, _⟩ => exact (result_eq V c).trans (hout c).symm)
      (fun b hb => hne c b fun h => hb (h ▸ Finset.mem_image.mpr ⟨0, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W
    isplitr
    · ipureintro; intro p hp
      rcases hW hp with h | h
      · exact h
      · obtain ⟨w, s, rfl⟩ := h; exact Nat.zero_le _
    iexact HO

end Cert.KernelIdeal.Proof

end
-- ==== Proof.Launch.lean ====
/-
  The whole program's run: the SparseCore call, two host operations, the TensorCore call, three host operations. The
  result is the TensorCore call's first column followed by the SparseCore call's first column (`outK`), the argument is
  as it was, and every semaphore counter is at zero.
-/
module

public import proofs.«01_k».proof.Proof.Region

@[expose] public section

noncomputable section

namespace Cert.KernelIdeal.Proof

open Cert.KernelIdeal Cert.KernelIdeal.Gen

open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)

/-! ## The arrays, step by step -/

/-- The first column of the SparseCore call's result. -/
def scCol : (⟨S32, .f32⟩ : BufTy).Contents (Elt F) :=
  shapeCast S32 (extractStridedSlice S32x1 ![0, 0] (scOut (F := F)) slices_S32x16_S32x1_0_0) shapeCasts_S32x1_S32
/-- The first column of the TensorCore call's result. -/
def tcCol : (⟨S96, .f32⟩ : BufTy).Contents (Elt F) :=
  shapeCast S96 (extractStridedSlice S96x1 ![0, 0] (tcOut (F := F)) slices_S96x128_S96x1_0_0) shapeCasts_S96x1_S96
/-- The program's result. -/
def outK : (⟨S128, .f32⟩ : BufTy).Contents (Elt F) :=
  concatenate S128 0 [⟨S96, tcCol (F := F)⟩, ⟨S32, scCol (F := F)⟩] concatenates_S96_S32_S128_d0

abbrev op1 : HloOp τ sig (Elt F) := StableHlo.unary main_v0 main_v1 ((extractStridedSlice S32x1 ![0, 0] · slices_S32x16_S32x1_0_0) : (⟨S32x16, .f32⟩ : BufTy).Contents (Elt F) → (⟨S32x1, .f32⟩ : BufTy).Contents (Elt F))
abbrev op2 : HloOp τ sig (Elt F) := StableHlo.reshape main_v1 main_v2 (rfl : (.f32 : EltTy) = .f32) shapeCasts_S32x1_S32
abbrev op3 : HloOp τ sig (Elt F) := StableHlo.unary main_v3 main_v4 ((extractStridedSlice S96x1 ![0, 0] · slices_S96x128_S96x1_0_0) : (⟨S96x128, .f32⟩ : BufTy).Contents (Elt F) → (⟨S96x1, .f32⟩ : BufTy).Contents (Elt F))
abbrev op4 : HloOp τ sig (Elt F) := StableHlo.reshape main_v4 main_v5 (rfl : (.f32 : EltTy) = .f32) shapeCasts_S96x1_S96
abbrev op5 : HloOp τ sig (Elt F) := StableHlo.binary main_v5 main_v2 main_v6 ((fun a b => concatenate S128 0 [⟨S96, a⟩, ⟨S32, b⟩] concatenates_S96_S32_S128_d0) : (⟨S96, .f32⟩ : BufTy).Contents (Elt F) → (⟨S32, .f32⟩ : BufTy).Contents (Elt F) → (⟨S128, .f32⟩ : BufTy).Contents (Elt F))

abbrev dv (b : Ref sig .tc) : DevRef τ sig := Proc.devRef .tc b

/-- The arrays at launch; -/
def V0 (d : Dev nD) : Valuation τ sig (Elt F) := fun b => m (d, b)
/-- after the SparseCore call; -/
def V1 (d : Dev nD) : Valuation τ sig (Elt F) := Function.update (V0 m d) (dv main_v0) (scOut (F := F))
/-- after the two host operations on its result; -/
def V2 (d : Dev nD) : Valuation τ sig (Elt F) := (op2 (F := F)).result ((op1 (F := F)).result (V1 m d))
/-- after the TensorCore call; -/
def V3 (d : Dev nD) : Valuation τ sig (Elt F) := Function.update (V2 m d) (dv main_v3) (tcOut (F := F))
/-- at the end. -/
def V4 (d : Dev nD) : Valuation τ sig (Elt F) := (op5 (F := F)).result ((op4 (F := F)).result ((op3 (F := F)).result (V3 m d)))

theorem V2_v2 (d : Dev nD) : V2 m d (dv main_v2) = scCol (F := F) := by
  unfold V2
  rw [StableHlo.reshape_result, StableHlo.unary_result, V1, Function.update_self]
  rfl
theorem V4_v6 (d : Dev nD) : V4 m d (dv main_v6) = outK (F := F) := by
  unfold V4
  rw [StableHlo.binary_result, StableHlo.reshape_result, StableHlo.unary_result,
    StableHlo.reshape_result_ne _ _ _ _ _ _ _ (by decide), StableHlo.unary_result_ne _ _ _ _ _ _ (by decide), V3,
    Function.update_self, Function.update_of_ne (by decide), V2_v2]
  rfl
theorem V4_arg0 (d : Dev nD) : V4 m d (dv main_arg0) = m (d, dv main_arg0) := by
  unfold V4
  rw [StableHlo.binary_result_ne _ _ _ _ _ _ _ _ (by decide), StableHlo.reshape_result_ne _ _ _ _ _ _ _ (by decide),
    StableHlo.unary_result_ne _ _ _ _ _ _ (by decide), V3, Function.update_of_ne (by decide), V2,
    StableHlo.reshape_result_ne _ _ _ _ _ _ _ (by decide), StableHlo.unary_result_ne _ _ _ _ _ _ (by decide), V1,
    Function.update_of_ne (by decide), V0]

/-! ## The unscoped buffers as a set held -/

def ucRefs : Finset (DevRef τ sig) := (StableHlo.tcRefs τ sig).filter fun b => ¬ b.isScoped

omit [FloatOps F] in
theorem unscopedBufs_held (d : Dev nD) (W : Valuation τ sig (Elt F)) :
    (unscopedBufs d (fun b => W (dv b)) : sProp 𝕄) = StableHlo.held (d : Thread nD τ) ucRefs W := by
  unfold unscopedBufs StableHlo.held ucRefs StableHlo.tcRefs
  rw [Finset.filter_map, bigSep_map]
  rfl

/-- The unscoped buffers but one. -/
def others (d : Dev nD) (W : (b : Ref sig .tc) → Buf (Elt F) ((d : Thread nD τ).loc b)) : sProp 𝕄 :=
  bigSep ((Finset.univ.filter fun b : Ref sig .tc => ¬ b.isScoped).erase main_v0) fun b => ((d : Thread nD τ).loc b) ↦{fullShare} W b

omit [FloatOps F] in
theorem unscopedBufs_v0 (d : Dev nD) (W : (b : Ref sig .tc) → Buf (Elt F) ((d : Thread nD τ).loc b)) :
    (unscopedBufs d W : sProp 𝕄) = iprop((oLoc d ↦{fullShare} W main_v0) ∗ others d W) := by
  unfold unscopedBufs others
  rw [SparseCore.bigSep_erase' (i := main_v0) (by decide)]

theorem others_V1 (d : Dev nD) : (others d (fun b => V0 m d (dv b)) : sProp 𝕄) = others d (fun b => V1 m d (dv b)) := by
  unfold others
  refine bigSep_congr fun b hb => ?_
  have hb' : dv b ≠ dv main_v0 := fun h => (Finset.mem_erase.mp hb).1 (Proc.devRef_injective _ h)
  show _ = ((d : Thread nD τ).loc b) ↦{fullShare} Function.update (V0 m d) (dv main_v0) (scOut (F := F)) (dv b)
  rw [Function.update_of_ne hb']

theorem held_V1 (d : Dev nD) :
    iprop((oLoc d ↦{fullShare} (scOut (F := F))) ∗ others d (fun b => V1 m d (dv b)))
      = (StableHlo.held (d : Thread nD τ) ucRefs (V1 m d) : sProp 𝕄) := by
  rw [← unscopedBufs_held, unscopedBufs_v0]
  rw [V1, Function.update_self]

omit [FloatOps F] in
theorem mem_ucRefs (b : Ref sig .tc) (h : b.isScoped = false) : dv b ∈ ucRefs :=
  Finset.mem_filter.mpr ⟨StableHlo.devRef_mem_tcRefs b, by show ¬ b.isScoped = true; rw [h]; decide⟩

theorem op1_sub : (op1 (F := F)).bufs ⊆ ucRefs :=
  Finset.insert_subset (mem_ucRefs _ (by decide)) (Finset.singleton_subset_iff.mpr (mem_ucRefs _ (by decide)))
theorem op2_sub : (op2 (F := F)).bufs ⊆ ucRefs :=
  Finset.insert_subset (mem_ucRefs _ (by decide)) (Finset.singleton_subset_iff.mpr (mem_ucRefs _ (by decide)))
theorem op3_sub : (op3 (F := F)).bufs ⊆ ucRefs :=
  Finset.insert_subset (mem_ucRefs _ (by decide)) (Finset.singleton_subset_iff.mpr (mem_ucRefs _ (by decide)))
theorem op4_sub : (op4 (F := F)).bufs ⊆ ucRefs :=
  Finset.insert_subset (mem_ucRefs _ (by decide)) (Finset.singleton_subset_iff.mpr (mem_ucRefs _ (by decide)))
theorem op5_sub : (op5 (F := F)).bufs ⊆ ucRefs :=
  Finset.insert_subset (mem_ucRefs _ (by decide)) (Finset.insert_subset (mem_ucRefs _ (by decide))
    (Finset.singleton_subset_iff.mpr (mem_ucRefs _ (by decide))))

/-! ## The launch element -/

/-- The ghost state the certificate starts from: the handshakes' rounds, the pipeline's rounds, the counters. -/
def u₀ : UU := ((initOf (K (F := F)).hsCells (K (F := F)).hsToks,
  initOf (Pipeline.cells (Pipeline.pin (pcfgs (F := F)) adm) cellOf_inj) (Pipeline.launchToks (Pipeline.pin (pcfgs (F := F)) adm) cellOf_inj)), 1)

/-- What a core's TensorCore call starts from. -/
def G (d : Dev nD) : sProp 𝕄 :=
  iprop((bigSep Finset.univ fun p => Pipeline.cellsGhost (Pipeline.pin (pcfgs (F := F)) adm) EP p d)
    ∗ bigSep Finset.univ fun p => Pipeline.toksInit (Pipeline.pin (pcfgs (F := F)) adm) EP p d)

theorem G_eq (d : Dev nD) : G (F := F) d
    = iprop(Pipeline.cellsGhost (Pipeline.pin (pcfgs (F := F)) adm) EP 0 d ∗ Pipeline.toksInit (Pipeline.pin (pcfgs (F := F)) adm) EP 0 d) := by
  unfold G
  rw [bigSep_univ_of_subsingleton (0 : Fin 1), bigSep_univ_of_subsingleton (0 : Fin 1)]

omit [FloatOps F] in
theorem nothing_each {I : Type} (s : Finset I) : (iprop(emp) : sProp 𝕄) ⊢ bigSep s fun _ => iprop(emp) :=
  Entails.of_eq (bigSep_emp_const s).symm

theorem hu₀ : (ownU (u₀ (F := F)) : sProp 𝕄)
    ⊢ |={Set.univ}=> iprop(BI.own (EH (initOf (K (F := F)).hsCells (K (F := F)).hsToks)) ∗ bigSep Finset.univ (fun d => G (F := F) d)
        ∗ bigSep Finset.univ fun thr : Thread nD τ => bigSep Finset.univ fun q : Fin 1 => (P (F := F) m).x q thr) := by
  unfold u₀
  iintro H
  ihave H := (ownU_pair _ _) $$ H
  icases H with ⟨H, -⟩
  ihave H := (own_pair_emb embL _ _) $$ H
  icases H with ⟨HH, HP⟩
  imod (Pipeline.fund_ghost (Pipeline.pin (pcfgs (F := F)) adm) EP cellOf_inj) $$ HP with ⟨Hg, Ht⟩
  imodintro
  isplitl [HH]; · iexact HH
  isplitl [Hg Ht]
  · unfold G
    rw [bigSep_sep']
    isplitl [Hg] <;> iassumption
  rw [show (bigSep Finset.univ fun thr : Thread nD τ => bigSep Finset.univ fun q : Fin 1 => (P (F := F) m).x q thr)
      = bigSep Finset.univ fun _ => iprop(emp) from bigSep_congr fun _ _ => bigSep_univ_of_subsingleton (0 : Fin 1)]
  iapply (nothing_each (F := F) Finset.univ); iempintro

/-! ## @main on the TensorCore -/

theorem st0_eq (d : Dev nD) : (bigSep Finset.univ fun c : Fin ((K (F := F)).nCore 0) => (P m).st 0 d c) = oPts d (m (oLoc d)) :=
  (oPts_cores d _).symm
theorem dn0_eq (d : Dev nD) : (bigSep Finset.univ fun c : Fin ((K (F := F)).nCore 0) => (P m).dn 0 d c) = oPts (F := F) d scOut :=
  (oPts_cores d _).symm

abbrev FIN (d : Dev nD) : sProp 𝕄 := StableHlo.held (d : Thread nD τ) ucRefs (V4 m d)

theorem V3_v3 (c : Dev nD) : V3 m c (dv main_v3) = tcOut (F := F) := by rw [V3, Function.update_self]
theorem V3_ne (c : Dev nD) (b : Ref sig .tc) (h : b ≠ main_v3) : V3 m c (dv b) = V2 m c (dv b) := by
  rw [V3, Function.update_of_ne (fun e => h (Proc.devRef_injective _ e))]

/-- What the TensorCore holds between its calls, its `owes` apart: past the last SparseCore call nothing is owed. -/
def tcRest (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some ((inferInstance : SparseCore.Cfg.Blocks 1 1).last q)) 1)))
def tcOwes (d : Dev nD) : sProp 𝕄 :=
  iprop(∃ W, ⌜(K (F := F)).WBelow (d : Thread nD τ) W (8 * (inferInstance : SparseCore.Cfg.Blocks 1 1).fst 1)⌝
    ∗ owes (d : Thread nD τ) (0 : CellTallies nD τ sig (HIx 1)) W)
theorem tcSt_eq (d : Dev nD) : ((K (F := F)).tcSt EH d 1 : sProp 𝕄) = iprop(tcOwes d ∗ tcRest (F := F) d) := by
  unfold SparseCore.Cfg.tcSt tcOwes tcRest
  rw [(K (F := F)).Otc_end d (le_refl 1)]
theorem tcSt_open (d : Dev nD) : ((K (F := F)).tcSt EH d 1 : sProp 𝕄) ⊢ iprop(tcOwes d ∗ tcRest (F := F) d) := Entails.of_eq (tcSt_eq d)

theorem entry_lift (c : Dev nD) (Q : PUnit → sProp 𝕄) :
    wp frame (wpE (D (F := F)) 𝒱 (c : Thread nD τ) none) Set.univ (Prog.op (.customCall (Pipeline.entry 0) ()) .ret) Q
      ⊢ wp frame (wpE ((K (F := F)).defs (D (F := F))) 𝒱 (c : Thread nD τ) none) Set.univ
          (Prog.lift (.customCall (SparseCore.inner (Pipeline.entry 0)) ())) Q :=
  (K (F := F)).wp_liftProg (D (F := F)) 𝒱 (c : Thread nD τ) Set.univ none _ Q

theorem hmain (κ : GSem nD τ sig → ℕ) (d : Dev nD) :
    iprop((K (F := F)).ctx EH (P m) κ (K (F := F)).lev ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = unscopedBufs d (fun b => V0 m d (dv b)) from rfl,
    unscopedBufs_v0, others_V1]
  simp only [main, wp_bind, wp_pure]
  iintro ⟨#Hctx, Hst, ⟨Hb, ⟨Ho, Hrest⟩, Hts, -⟩, HG⟩
  iapply ((K (F := F)).wp_run (D (F := F)) 𝒱 (EH := EH) (P := P m) κ d 0) $$ [Hst Ho Hrest Hb Hts HG]
  isplitr; · iexact Hctx
  isplitl [Hst]; · iexact Hst
  isplitl [Ho]
  · rw [st0_eq]
    iexact Ho
  iintro ⟨Hst, Hdn⟩
  ihave Ho := (Entails.of_eq (dn0_eq m d)) $$ Hdn
  ihave Hh := (Entails.of_eq (held_V1 m d)) $$ [Ho Hrest]
  · isplitl [Ho] <;> iassumption
  iapply (StableHlo.wp_hlo_within 𝒱 (d : Thread nD τ) none Set.univ (op := op1 (F := F)) (S := ucRefs) op1_sub (V := V1 m d)) $$ [Hb Hh]
  · isplitl [Hb] <;> iassumption
  iintro ⟨Hb, Hh⟩
  rw [wp_ret]
  imodintro
  iapply (StableHlo.wp_hlo_within 𝒱 (d : Thread nD τ) none Set.univ (op := op2 (F := F)) (S := ucRefs) op2_sub (V := (op1 (F := F)).result (V1 m d))) $$ [Hb Hh]
  · isplitl [Hb] <;> iassumption
  iintro ⟨Hb, Hh⟩
  rw [wp_ret]
  imodintro
  iapply (entry_lift d _)
  ihave Hst := (show ((K (F := F)).tcSt EH d ((0 : Fin 1).val + 1) : sProp 𝕄) ⊢ iprop(tcOwes d ∗ tcRest (F := F) d) from tcSt_open d) $$ Hst
  icases Hst with ⟨HW, Hst⟩
  ihave HG := (Entails.of_eq (G_eq d)) $$ HG
  icases HG with ⟨Hg, Ht⟩
  ihave Hlv := (show (K (F := F)).ctx EH (P m) κ (K (F := F)).lev ⊢ levAts (K (F := F)).L (K (F := F)).lev from (K (F := F)).ctx_levAts κ) $$ Hctx
  iapply (Pipeline.RegionSeg.wp (pcfgs (F := F)) adm (pdats (fun c b => V2 m c (dv b))) (none : HIx 1) cellOf_inj EP defs₀ 𝒱₀
    (K (F := F)).L (K (F := F)).lev (reg (fun c b => V2 m c (dv b)) (fun c b => V3 m c (dv b)) (V3_v3 m) (V3_ne m)) d none (fun _ h => nomatch h) .ret _)
  isplitl [Hts Hst]
  · iintro ⟨Hb, Hpost⟩
    ihave Hpost := (show (reg (fun c b => V2 m c (dv b)) (fun c b => V3 m c (dv b)) (V3_v3 m) (V3_ne m)).post d
      ⊢ iprop(unscopedBufs d (fun b => V3 m d (dv b)) ∗ tcOwes d) from .rfl) $$ Hpost
    icases Hpost with ⟨Hub, HW⟩
    ihave Hh := (Entails.of_eq (unscopedBufs_held d (V3 m d))) $$ Hub
    rw [wp_ret]
    imodintro
    iapply (StableHlo.wp_hlo_within 𝒱 (d : Thread nD τ) none Set.univ (op := op3 (F := F)) (S := ucRefs) op3_sub (V := V3 m d)) $$ [Hb Hh]
    · isplitl [Hb] <;> iassumption
    iintro ⟨Hb, Hh⟩
    rw [wp_ret]
    imodintro
    iapply (StableHlo.wp_hlo_within 𝒱 (d : Thread nD τ) none Set.univ (op := op4 (F := F)) (S := ucRefs) op4_sub (V := (op3 (F := F)).result (V3 m d))) $$ [Hb Hh]
    · isplitl [Hb] <;> iassumption
    iintro ⟨Hb, Hh⟩
    rw [wp_ret]
    imodintro
    iapply (StableHlo.wp_hlo_within 𝒱 (d : Thread nD τ) none Set.univ (op := op5 (F := F)) (S := ucRefs) op5_sub
      (V := (op4 (F := F)).result ((op3 (F := F)).result (V3 m d)))) $$ [Hb Hh]
    · isplitl [Hb] <;> iassumption
    iintro ⟨Hb, Hh⟩
    rw [wp_ret]
    imodintro
    imodintro
    isplitl [HW Hst]
    · rw [tcSt_eq]; isplitl [HW] <;> iassumption
    isplitl [Hh]; · iexact Hh
    isplitl [Hb] <;> iassumption
  isplitl [Hb]; · iexact Hb
  isplitl [Hh HW]
  · iapply (show iprop(unscopedBufs d (fun b => V2 m d (dv b)) ∗ tcOwes d)
      ⊢ (reg (fun c b => V2 m c (dv b)) (fun c b => V3 m c (dv b)) (V3_v3 m) (V3_ne m)).pre d from .rfl)
    isplitl [Hh]
    · iapply (Entails.of_eq (unscopedBufs_held d (V2 m d)).symm); iexact Hh
    iexact HW
  isplitr; · iexact Hlv
  isplitl [Hg] <;> iassumption

/-! ## The end -/

/-- What the final memory holds: the argument as at launch, the result at `outK`. -/
def fq (d : Dev nD) (s' : Phys nD τ sig (Elt F)) : Prop :=
  s'.mem.mem ((d : Thread nD τ).loc main_v6) = outK (F := F) ∧ s'.mem.mem ((d : Thread nD τ).loc main_arg0) = m ((d : Thread nD τ).loc main_arg0)

set_option maxRecDepth 16384 in
theorem hfin (d : Dev nD) (s' : Phys nD τ sig (Elt F)) : iprop(FIN m d ∗ SI s') ⊢ (⌜fq m d s'⌝ : sProp 𝕄) := by
  unfold FIN
  rw [← unscopedBufs_held]
  unfold unscopedBufs
  rw [SparseCore.bigSep_erase' (i := main_v6) (by decide), SparseCore.bigSep_erase' (i := main_arg0) (by decide)]
  iintro ⟨⟨Ho, Ha, -⟩, HSI⟩
  ihave H := (persistent_entails_right (SI_pointsTo_agree (st := s') (ℓ := (d : Thread nD τ).loc main_v6) (I := Finset.univ) (q := fullShare) (f := V4 m d (dv main_v6)))) $$ [HSI Ho]
  · isplitl [HSI] <;> iassumption
  icases H with ⟨%h1, HSI, -⟩
  ihave H := (SI_pointsTo_agree (st := s') (ℓ := (d : Thread nD τ).loc main_arg0) (I := Finset.univ) (q := fullShare) (f := V4 m d (dv main_arg0))) $$ [HSI Ha]
  · isplitl [HSI] <;> iassumption
  icases H with %h2
  ipureintro
  exact ⟨(funext fun i => h1 i (Finset.mem_univ i)).trans (V4_v6 m d), (funext fun i => h2 i (Finset.mem_univ i)).trans (V4_arg0 m d)⟩

/-- What a run ends in: each device's result at `outK`, its argument as at launch, every semaphore counter at zero. -/
def Ends : PUnit × MemSt nD τ sig (Elt F) → Prop := fun r =>
  (∀ c : Dev nD, r.2.mem ((c : Thread nD τ).loc main_v6) = outK (F := F) ∧ r.2.mem ((c : Thread nD τ).loc main_arg0) = m ((c : Thread nD τ).loc main_arg0))
    ∧ r.2.sem = fun _ => 0

/-- Every run of the program ends so, from any memory with the counters at zero. -/
theorem run_main [∀ e, Nonempty (Elt F e)] :
    θ_run (Cert.KernelIdeal.defs (F := F)) (Cert.KernelIdeal.threads (F := F)) ⟨m, fun _ => 0, ρ⟩ (Ends m) :=
  SparseCore.Cfg.θ_run_sc_quiescent (K := K (F := F)) (D := D (F := F)) (𝒱 := 𝒱) (EH := EH) (P := P m) (A := ∅) scFacts v₀
    (fun q hq => match q with | 0 => nomatch hq)
    (fun q _ => match q with | 0 => tileObl m scFacts)
    (fun q _ => match q with | 0 => SparseCore.Cfg.VecSplit.of_plain (vecSplit m))
    m ρ main (fun d => G d) (FIN m) (u₀ (F := F)) (sep_elim_left.trans (hu₀ m)) (hmain m ρ) (fq m) (hfin m) (Ends m) (fun _ h hz => ⟨h, hz⟩)

end Cert.KernelIdeal.Proof

end
-- ==== Proof.KernelPick.lean ====
/-
  What the two kernels find: the column each tile of the SparseCore call and each row of a TensorCore block ends with is the
  first largest of the draws of its row (`Top`), and so is the program's result of every row.
-/
module

public import Idealize.ShloMosaic.PureOps.Ideal
public import proofs.«01_k».proof.Proof.Pick
public import proofs.«01_k».proof.Proof.Launch

@[expose] public section

noncomputable section

namespace Cert.KernelIdeal.Proof

open Idealize.ShloMosaic Cert.Proof Cert.KernelIdeal Cert.KernelIdeal.Gen

/-- The draws of row `r`, by column. -/
def rowF (r : ℕ) (c : ℕ) : BitVec 32 := draw (BitVec.ofNat 32 (r * 100001 + c))

theorem rowF_lt (r c : ℕ) : (rowF r c).toNat < 8388608 := draw_lt _

/-! ## A tile -/

/-- The row of a grid point of the SparseCore call. -/
def tileRow (i : grid0.Coords) : ℕ := 96 + ((i 1).val * 2 + (i 0).val)

theorem tile_number (i : grid0.Coords) (j : S16.Idx) :
    k0_pay40 i j = BitVec.ofNat 32 (tileRow i * 100001 + (j 0).val) := by
  show (96#32 + (BitVec.ofNat 32 (i 1).val * 2#32 + BitVec.ofNat 32 (i 0).val) * 1#32 + 0#32) * 100001#32
    + BitVec.ofNat 32 (0 * 16 + (j 0).val) = _
  simp [tileRow, BitVec.ofNat_add, BitVec.ofNat_mul]

theorem tile_draw (i : grid0.Coords) (x : ℕ) (j : S16.Idx) :
    tileDraw i (BitVec.ofNat 32 x) j = rowF (tileRow i) (x + (j 0).val) := by
  show draw (k0_pay40 i j + BitVec.ofNat 32 x) = _
  rw [tile_number, ← BitVec.ofNat_add]
  exact congrArg (fun n => draw (BitVec.ofNat 32 n)) (by omega)

/-- Every lane's best after `n` trips. -/
theorem tile_kept (i : grid0.Coords) (j : S16.Idx) (n : ℕ) (hn : n ≤ 6250) :
    Kept 100001 16 (j 0).val (rowF (tileRow i)) n (atL j (runN (tileStep i) (k0_pay41, k0_pay42) n)) := by
  have hj : (j 0).val < 16 := (j 0).isLt
  induction n with
  | zero => exact .inl ⟨rfl, rfl⟩
  | succ n ih =>
    have h := (ih (by omega)).step_all (rowF_lt _) (by omega) (by omega)
    show Kept _ _ _ _ _ (atL j (bestV (BitVec.ofNat 32 n) (tileDraw i (BitVec.ofNat 32 n * 16#32)) _))
    rw [bestV_at, show BitVec.ofNat 32 n * 16#32 = BitVec.ofNat 32 (n * 16) from (BitVec.ofNat_mul n 16).symm, tile_draw]
    exact h

theorem tile_mask (j : S16.Idx) : k0_pay43 j = BitVec.ofBool (decide (6250 * 16 + (j 0).val < 100001)) := by
  have hj : (j 0).val < 16 := (j 0).isLt
  show BitVec.ofBool ((BitVec.ofNat 32 (0 * 16 + (j 0).val) + BitVec.ofNat 32 100000).slt (BitVec.ofNat 32 100001)) = _
  rw [← BitVec.ofNat_add, slt_small (by rw [toNat_col (by omega)]; omega) (by rw [toNat_col (by omega)]; omega),
    toNat_col (by omega), toNat_col (by omega)]
  congr 2
  rw [eq_iff_iff]
  omega

/-- Every lane's value and column at the end. -/
theorem tile_lane (i : grid0.Coords) (j : S16.Idx) :
    LaneTop 100001 16 (j 0).val (rowF (tileRow i)) ((tileBest i).1 j) (tileCols i j) := by
  have hj : (j 0).val < 16 := (j 0).isLt
  have h := (tile_kept i j 6250 le_rfl).step (rowF_lt _) (by omega)
  have ht : k0_t1_loop.trips = 6250 := by decide +kernel
  have hb : atL j (tileBest i) = if decide (6250 * 16 + (j 0).val < 100001)
      then stepS (BitVec.ofNat 32 6250) (rowF (tileRow i) (6250 * 16 + (j 0).val))
        (atL j (runN (tileStep i) (k0_pay41, k0_pay42) 6250))
      else atL j (runN (tileStep i) (k0_pay41, k0_pay42) 6250) := by
    rw [tileBest, bestM_at j _ _ (tile_mask j), ht, show (100000#32 : BitVec 32) = BitVec.ofNat 32 100000 from rfl, tile_draw]
  rw [← hb] at h
  have hl := h.lane hj (by omega) (by omega)
  have hc : tileCols i j = (tileBest i).2 j * BitVec.ofNat 32 16 + BitVec.ofNat 32 (j 0).val := by
    show (tileBest i).2 j * 16#32 + BitVec.ofNat 32 (0 * 16 + (j 0).val) = _
    rw [Nat.zero_mul, Nat.zero_add]
  rw [hc]
  exact hl

/-- The index of lane `l` of sixteen. -/
def sixteen (l : ℕ) : S16.Idx := fun | ⟨0, _⟩ => (Fin.ofNat 16 l : Fin 16)

theorem lane_eq (v : IVec S16 32) (l : ℕ) : lane v l = v (sixteen l) :=
  congrArg v (funext fun a => by obtain rfl : a = 0 := Subsingleton.elim _ _; rfl)

/-- The column the tile's walk ends with. -/
theorem tile_top (i : grid0.Coords) :
    ∃ k, Top (fun k => k < 100001) (rowF (tileRow i)) k ∧ (walk (tileBest i).1 (tileCols i) 16).2 = BitVec.ofNat 32 k := by
  refine walk_top (by omega) (by omega) (rowF_lt _) _ _ fun l hl => ?_
  have h := tile_lane i (sixteen l)
  rw [show ((sixteen l) 0).val = l from Nat.mod_eq_of_lt hl] at h
  rw [lane_eq, lane_eq]
  exact h

/-! ## A block -/

/-- The row of a block's row `j`. -/
def blockRow (i : grid1.Coords) (j : S8x512.Idx) : ℕ := (i 0).val * 8 + (j 0).val

theorem block_number (i : grid1.Coords) (j : S8x512.Idx) :
    k1_pay345 i j = BitVec.ofNat 32 (blockRow i j * 100001 + (j 1).val) := by
  show (BitVec.ofNat 32 (0 * 8 + (j 0).val) + BitVec.ofNat 32 (i 0).val * 8#32) * 100001#32
    + BitVec.ofNat 32 (0 * 512 + (j 1).val) = _
  simp [blockRow, BitVec.ofNat_add, BitVec.ofNat_mul, BitVec.add_comm]

theorem block_draw (i : grid1.Coords) (x : ℕ) (j : S8x512.Idx) :
    blockDraw i (BitVec.ofNat 32 x) j = rowF (blockRow i j) (x + (j 1).val) := by
  show draw (k1_pay345 i j + BitVec.ofNat 32 x) = _
  rw [block_number, ← BitVec.ofNat_add]
  exact congrArg (fun n => draw (BitVec.ofNat 32 n)) (by omega)

/-- One group of 512 columns. -/
theorem block_one (i : grid1.Coords) (j : S8x512.Idx) (t u : ℕ) (c : BitVec 32) (hc : c = BitVec.ofNat 32 (u * 512))
    (hu : t * 8 + u < 192) {p : IVec S8x512 32 × IVec S8x512 32}
    (h : Kept 100001 512 (j 1).val (rowF (blockRow i j)) (t * 8 + u) (atL j p)) :
    Kept 100001 512 (j 1).val (rowF (blockRow i j)) (t * 8 + (u + 1)) (atL j (blockOne i t (BitVec.ofNat 32 u) c p)) := by
  have hj : (j 1).val < 512 := (j 1).isLt
  have h' := h.step_all (rowF_lt _) (by omega) (by omega)
  rw [blockOne, bestV_at]
  have e1 : Scalar.addi (Scalar.muli (BitVec.ofNat 32 t) 8#32) (BitVec.ofNat 32 u) = BitVec.ofNat 32 (t * 8 + u) := by
    rw [BitVec.ofNat_add, BitVec.ofNat_mul]; rfl
  have e2 : Scalar.addi (Scalar.muli (BitVec.ofNat 32 t) 4096#32) c = BitVec.ofNat 32 ((t * 8 + u) * 512) := by
    rw [hc, show (t * 8 + u) * 512 = t * 4096 + u * 512 by omega, BitVec.ofNat_add, BitVec.ofNat_mul t]; rfl
  rw [e1, e2, block_draw]
  exact h'

/-- Every lane's best after `n` trips. -/
theorem block_kept (i : grid1.Coords) (j : S8x512.Idx) (n : ℕ) (hn : n ≤ 24) :
    Kept 100001 512 (j 1).val (rowF (blockRow i j)) (n * 8) (atL j (runN (blockStep i) (k1_pay346, k1_pay347) n)) := by
  induction n with
  | zero => exact .inl ⟨rfl, rfl⟩
  | succ n ih =>
    have h := ih (by omega)
    have h0 := block_one i j n 0 0#32 rfl (by omega) h
    have h1 := block_one i j n 1 512#32 rfl (by omega) h0
    have h2 := block_one i j n 2 1024#32 rfl (by omega) h1
    have h3 := block_one i j n 3 1536#32 rfl (by omega) h2
    have h4 := block_one i j n 4 2048#32 rfl (by omega) h3
    have h5 := block_one i j n 5 2560#32 rfl (by omega) h4
    have h6 := block_one i j n 6 3072#32 rfl (by omega) h5
    have h7 := block_one i j n 7 3584#32 rfl (by omega) h6
    rw [show (n + 1) * 8 = n * 8 + (7 + 1) by omega]
    exact h7

theorem last_mask (j : S8x512.Idx) (u : ℕ) (hu : u < 8) :
    cmpi .ule (lastCol (BitVec.ofNat 32 (u * 512))) (broadcast S8x512 100000#32) j
      = BitVec.ofBool (decide ((192 + u) * 512 + (j 1).val < 100001)) := by
  have hj : (j 1).val < 512 := (j 1).isLt
  show BitVec.ofBool ((BitVec.ofNat 32 (0 * 512 + (j 1).val) + (BitVec.ofNat 32 98304 + BitVec.ofNat 32 (u * 512))).ule
    (BitVec.ofNat 32 100000)) = _
  rw [← BitVec.ofNat_add, ← BitVec.ofNat_add, BitVec.ule, toNat_col (by omega), toNat_col (by omega)]
  congr 2
  rw [eq_iff_iff]
  omega

/-- One group of the last, masked trip. -/
theorem last_one (i : grid1.Coords) (j : S8x512.Idx) (u : ℕ) (hu : u < 8) (n c : BitVec 32)
    (hn : n = BitVec.ofNat 32 (192 + u)) (hc : c = BitVec.ofNat 32 (u * 512)) {p : IVec S8x512 32 × IVec S8x512 32}
    (h : Kept 100001 512 (j 1).val (rowF (blockRow i j)) (192 + u) (atL j p)) :
    Kept 100001 512 (j 1).val (rowF (blockRow i j)) (192 + (u + 1)) (atL j (lastOne i n c p)) := by
  have hj : (j 1).val < 512 := (j 1).isLt
  have h' := h.step (rowF_lt _) (by omega)
  subst hn hc
  rw [lastOne, bestM_at j _ _ (last_mask j u hu)]
  have e2 : Scalar.addi 98304#32 (BitVec.ofNat 32 (u * 512)) = BitVec.ofNat 32 ((192 + u) * 512) := by
    rw [show (192 + u) * 512 = 98304 + u * 512 by omega, BitVec.ofNat_add]; rfl
  rw [e2, block_draw]
  exact h'

/-- Every lane's value and column at the end. -/
theorem block_lane (i : grid1.Coords) (j : S8x512.Idx) :
    LaneTop 100001 512 (j 1).val (rowF (blockRow i j)) ((blockBest i).1 j) (blockCols i j) := by
  have hj : (j 1).val < 512 := (j 1).isLt
  have ht : k1_t1_loop.trips = 24 := by decide +kernel
  have h := block_kept i j 24 le_rfl
  rw [← ht] at h
  have h0 := last_one i j 0 (by omega) 192#32 0#32 rfl rfl h
  have h1 := last_one i j 1 (by omega) 193#32 512#32 rfl rfl h0
  have h2 := last_one i j 2 (by omega) 194#32 1024#32 rfl rfl h1
  have h3 := last_one i j 3 (by omega) 195#32 1536#32 rfl rfl h2
  have h4 := last_one i j 4 (by omega) 196#32 2048#32 rfl rfl h3
  have h5 := last_one i j 5 (by omega) 197#32 2560#32 rfl rfl h4
  have h6 := last_one i j 6 (by omega) 198#32 3072#32 rfl rfl h5
  have h7 := last_one i j 7 (by omega) 199#32 3584#32 rfl rfl h6
  have hl := h7.lane hj (by omega) (by omega)
  have hc : blockCols i j = (blockBest i).2 j * BitVec.ofNat 32 512 + BitVec.ofNat 32 (j 1).val := by
    show (blockBest i).2 j * 512#32 + BitVec.ofNat 32 (0 * 512 + (j 1).val) = _
    rw [Nat.zero_mul, Nat.zero_add]
  rw [hc]
  exact hl

/-- A column of eight, repeated along the rows, read at an index. -/
theorem column_at {α : Type} {n : ℕ} (m : S8.Idx → α) (h : S8.ShapeCasts S8x1) (h' : S8x1.Broadcasts ⟨2, ![8, n]⟩)
    (x : (⟨2, ![8, n]⟩ : Shape).Idx) (j : S8.Idx) (hj : (j 0).val = (x 0).val) :
    broadcastTo ⟨2, ![8, n]⟩ (shapeCast S8x1 m h) h' x = m j := by
  rw [broadcastTo_apply _ h' x (fun | ⟨0, _⟩ => (x 0 : Fin 8) | ⟨1, _⟩ => (0 : Fin 1)) (fun a => by
    match a with
    | ⟨0, _⟩ => rfl
    | ⟨1, _⟩ => rfl)]
  refine shapeCast_apply m h _ j ?_
  rw [Shape.rowMajor_val_one, Shape.rowMajor_val_two, hj]
  show (x 0).val = (x 0).val * 1 + 0
  omega

/-- The columns of a block's row. -/
def rowIx (j : S8.Idx) (c : Fin 512) : S8x512.Idx := fun | ⟨0, _⟩ => (j 0 : Fin 8) | ⟨1, _⟩ => c

theorem drop_rowIx (h : S8x512.Reduces [1] S8) (j : S8.Idx) (c : Fin 512) : h.lift j c = rowIx j c := by
  funext a
  have h0 := congrArg (fun y : S8.Idx => (y 0).val) (h.drop_lift j c)
  dsimp only at h0
  rw [h.drop_apply_val_of_eq (h.lift j c) 0 0] at h0
  match a with
  | ⟨0, _⟩ => exact Fin.ext h0
  | ⟨1, _⟩ =>
    apply Fin.ext
    refine (h.lift_val j c 1).trans ?_
    unfold Shape.Reduces.liftVal
    exact dif_pos rfl

/-- A reduction along the rows of a block, at a row: the fold over the row's columns. -/
theorem row_reduce (kind : IKind) (src : IVec S8x512 32) (acc : BitVec 32) (h : S8x512.Reduces [1] S8)
    (hacc : acc = kind.neutral) (j : S8.Idx) :
    multiReductionI kind [1] S8 src acc h hacc j
      = (Finset.univ : Finset (Fin 512)).fold kind.op acc (fun c => src (rowIx j c)) := by
  rw [multiReductionI_eq_fold, Shape.Reduces.fold_filter_drop_single]
  exact congrArg (fun v => Finset.fold kind.op acc v (Finset.univ : Finset (Fin 512)))
    (funext fun c => congrArg src (drop_rowIx h j c))

/-- The column a block's row ends with. -/
theorem block_top (i : grid1.Coords) (j : S8.Idx) :
    ∃ k, Top (fun k => k < 100001) (rowF ((i 0).val * 8 + (j 0).val)) k ∧ blockIdx i j = BitVec.ofNat 32 k := by
  obtain ⟨k, hk, he⟩ := reduce_top (N := 100001) (w := 512) (by omega) (by omega) (by omega) (f := rowF ((i 0).val * 8 + (j 0).val))
    (rowF_lt _) (Finset.univ : Finset (Fin 512)) (fun c => c.val) (fun n hn => ⟨⟨n, hn⟩, Finset.mem_univ _, rfl⟩)
    (fun c => (blockBest i).1 (rowIx j c)) (fun c => blockCols i (rowIx j c)) (fun c => block_lane i (rowIx j c))
  refine ⟨k, hk, ?_⟩
  have hm : blockMax i j
      = (Finset.univ : Finset (Fin 512)).fold IntOp.maxsi 2147483648#32 (fun c => (blockBest i).1 (rowIx j c)) :=
    row_reduce .maxsi _ _ _ _ j
  rw [← he, ← hm]
  refine (row_reduce .minsi _ _ _ _ j).trans ?_
  refine congrArg (fun v => Finset.fold IntOp.minsi 2147483647#32 v (Finset.univ : Finset (Fin 512))) (funext fun c => ?_)
  exact congrArg (fun y => Scalar.select (BitVec.ofBool ((blockBest i).1 (rowIx j c) == y)) (blockCols i (rowIx j c)) 2147483647#32)
    (column_at (n := 512) _ _ _ _ j rfl)

/-! ## The result -/

variable {F : FTy → Type} [FloatOps F]

/-- A row of the TensorCore call's result. -/
theorem tc_top (r : ℕ) (hr : r < 96) (x : S96.Idx) (hx : (x 0).val = r) :
    ∃ k, Top (fun k => k < 100001) (rowF r) k ∧ tcCol (F := F) x = FloatOps.sitofp .f32 (BitVec.ofNat 32 k) := by
  let q : Fin 12 := ⟨r / 8, by omega⟩
  let j : S8.Idx := fun | ⟨0, _⟩ => (⟨r % 8, Nat.mod_lt _ (by decide)⟩ : Fin 8)
  obtain ⟨k, hk, he⟩ := block_top (gridPt q) j
  refine ⟨k, ?_, ?_⟩
  · have e : ((gridPt q) 0).val * 8 + (j 0).val = r := by
      show r / 8 * 8 + r % 8 = r
      omega
    rwa [e] at hk
  · let y : S96x1.Idx := fun | ⟨0, _⟩ => (x 0 : Fin 96) | ⟨1, _⟩ => (0 : Fin 1)
    let z : S96x128.Idx := fun | ⟨0, _⟩ => (x 0 : Fin 96) | ⟨1, _⟩ => (0 : Fin 128)
    rw [tcCol, shapeCast_apply _ _ x y (by
      rw [Shape.rowMajor_val_one, Shape.rowMajor_val_two]
      show (x 0).val * 1 + 0 = (x 0).val
      omega), extractStridedSlice_apply _ _ _ y z (fun a => by
        match a with
        | ⟨0, _⟩ => exact (Nat.zero_add _).symm
        | ⟨1, _⟩ => rfl)]
    rw [← he, tcOut, blockOut]
    subst hx
    exact column_at (n := 128) (sitofp (F := F) .f32 (blockIdx (gridPt q))) shapeCasts_S8_S8x1 broadcasts_S8x1_S8x128
      (fun | ⟨0, _⟩ => (j 0 : Fin 8) | ⟨1, _⟩ => (z 1 : Fin 128)) j rfl

/-- A row of the SparseCore call's. -/
theorem sc_top (r : ℕ) (hr : r < 32) (x : S32.Idx) (hx : (x 0).val = r) :
    ∃ k, Top (fun k => k < 100001) (rowF (96 + r)) k ∧ scCol (F := F) x = Scalar.sitofp .f32 (BitVec.ofNat 32 k) := by
  obtain ⟨k, hk, he⟩ := tile_top (ptOf ⟨r, hr⟩)
  refine ⟨k, ?_, ?_⟩
  · have e : tileRow (ptOf ⟨r, hr⟩) = 96 + r := by
      show 96 + (r / 2 * 2 + r % 2) = 96 + r
      omega
    rwa [e] at hk
  · let y : S32x1.Idx := fun | ⟨0, _⟩ => (x 0 : Fin 32) | ⟨1, _⟩ => (0 : Fin 1)
    let z : S32x16.Idx := fun | ⟨0, _⟩ => (x 0 : Fin 32) | ⟨1, _⟩ => (0 : Fin 16)
    rw [scCol, shapeCast_apply _ _ x y (by
      rw [Shape.rowMajor_val_one, Shape.rowMajor_val_two]
      show (x 0).val * 1 + 0 = (x 0).val
      omega), extractStridedSlice_apply _ _ _ y z (fun a => by
        match a with
        | ⟨0, _⟩ => exact (Nat.zero_add _).symm
        | ⟨1, _⟩ => rfl)]
    subst hx
    rw [← he]
    rfl

/-- Every row of the program's result is the column of the first largest draw of the row. The tiles convert that column to a float
    by the scalar unit, the blocks by the vector unit; at the extended reals both are the column's number. -/
theorem outK_top (x : S128.Idx) :
    ∃ k, Top (fun k => k < 100001) (rowF (x 0).val) k ∧ outK (F := Ideal) x = FloatOps.sitofp (F := Ideal) .f32 (BitVec.ofNat 32 k) := by
  have hx : (x 0).val < 128 := (x 0).isLt
  by_cases h : (x 0).val < 96
  · let y : S96.Idx := fun | ⟨0, _⟩ => (⟨(x 0).val, h⟩ : Fin 96)
    obtain ⟨k, hk, he⟩ := tc_top (F := Ideal) (x 0).val h y rfl
    refine ⟨k, hk, ?_⟩
    exact (concatenate_pair_apply_left (t := S128) (s₁ := S96) (s₂ := S32) 0 _ _ _ x rfl y
      (fun b => by obtain rfl : b = 0 := Subsingleton.elim _ _; rfl)).trans he
  · let y : S32.Idx := fun | ⟨0, _⟩ => (⟨(x 0).val - 96, by omega⟩ : Fin 32)
    obtain ⟨k, hk, he⟩ := sc_top (F := Ideal) ((x 0).val - 96) (by omega) y rfl
    refine ⟨k, ?_, ?_⟩
    · rwa [show 96 + ((x 0).val - 96) = (x 0).val by omega] at hk
    · exact (concatenate_pair_apply_right (t := S128) (s₁ := S96) (s₂ := S32) 0 _ _ _ x rfl rfl y
        (fun b hb => absurd (Subsingleton.elim (α := Fin 1) _ _) hb) (by show (x 0).val - 96 + 96 = (x 0).val; omega)).trans he

end Cert.KernelIdeal.Proof

end
-- ==== Proof.HostWord.lean ====
/-
  The steps of the random word as a host program writes them on whole tensors: the constants are splats, the two words of
  the key are added one by one, the first word of the counter is a tensor of zeros. The lemmas recognise one step each, in
  the numbering of the kernels' steps.
-/
module

public import proofs.«01_k».proof.Proof.Word

@[expose] public section

noncomputable section

namespace Cert.Proof

open Idealize.ShloMosaic

variable {s : Shape}

/-- The second word the first round meets, of every element. -/
def seed (n : IVec s 32) : IVec s 32 := fun j => n j + 42#32

theorem seed_eq (n : IVec s 32) : addi n (constantI s 32 42#32) = seed n := rfl

/-- A splat of a scalar constant is a constant. -/
theorem splat {t u : Shape} {w : ℕ} (dims : Fin u.rank → Fin t.rank) (h : u.BroadcastsInDim t dims) (c : BitVec w) :
    broadcastInDim t dims h (constantI u w c) = constantI t w c := rfl

/-- Nothing added to nothing. -/
theorem zero_zero : addi (constantI s 32 0#32) (constantI s 32 0#32) = constantI s 32 0#32 := rfl

/-- The key's third word. -/
theorem key_third : xori (xori (constantI s 32 0#32) (constantI s 32 42#32)) (constantI s 32 466688986#32)
    = constantI s 32 466689008#32 := by
  funext j
  show (0#32 ^^^ 42#32) ^^^ 466688986#32 = 466689008#32
  decide

/-- The first word after the first round, -/
theorem host_first_A (n : IVec s 32) : addi (constantI s 32 0#32) (seed n) = stA 0 (seed n) := by
  funext j
  show 0#32 + seed n j = seed n j
  exact BitVec.zero_add _

/-- the second, -/
theorem host_first_B (n : IVec s 32) :
    xori (stA 0 (seed n)) (ori (Host.shli (seed n) (constantI s 32 13#32)) (Host.shrui (seed n) (constantI s 32 19#32)))
      = stB 0 (seed n) := by
  funext j
  show seed n j ^^^ _ = _ ^^^ seed n j
  rw [BitVec.xor_comm]; rfl

/-- A round's second word. -/
theorem host_round_B (k m : ℕ) (hm : k + 1 = m) (l r : BitVec 32) (h : (k % 5 == 3) = false) (hl : lft k = l)
    (hr : rgt k = r) (y : IVec s 32) :
    xori (stA m y) (ori (Host.shli (stB k y) (constantI s 32 l)) (Host.shrui (stB k y) (constantI s 32 r))) = stB m y := by
  rw [← round_B k m hm l r h hl hr y]
  subst hm hl hr
  funext j
  show _ ^^^ (IntOp.shli .host (st k (y j)).2 (lft k) ||| IntOp.shrui .host (st k (y j)).2 (rgt k))
    = (IntOp.shli .vector (st k (y j)).2 (lft k) ||| IntOp.shrui .vector (st k (y j)).2 (rgt k)) ^^^ _
  simp only [IntOp.shli, IntOp.shrui, if_pos (lft_lt k), if_pos (rgt_lt k), BitVec.xor_comm]

/-- A key step's first word, -/
theorem host_key_A (k : ℕ) (c : BitVec 32) (h : (k % 5 == 3) = true) (hc : keyA k = c) (y : IVec s 32) :
    addi (stA k y) (constantI s 32 c) = stA (k + 1) y := key_A k c h hc y

/-- the second. -/
theorem host_key_B (k : ℕ) (c n : BitVec 32) (h : (k % 5 == 3) = true) (hc : keyB k = c) (hn : keyN k = n)
    (y : IVec s 32) :
    addi (addi (stB k y) (constantI s 32 c)) (constantI s 32 n) = stB (k + 1) y := key_B k c n h hc hn y

/-- The two words joined and shifted are the draw. -/
theorem host_join (n : IVec s 32) :
    Host.shrui (xori (stA 24 (seed n)) (stB 24 (seed n))) (constantI s 32 9#32) = drawV n := rfl

end Cert.Proof

end
-- ==== Proof.RefSteps.lean ====
/-
  The reference's operations around its random word: the element numbers, computed in 64-bit words and cut into their two
  halves, the key's words, and the steps of the word as the host writes them, each with the name of its value.
-/
module

public import proofs.«01_k».proof.Proof.Gen.ReferenceIdeal
public import proofs.«01_k».proof.Proof.HostWord
public import Idealize.ShloMosaic.Lib.StableHlo.RunHlo
public import Idealize.ShloMosaic.Lib.StableHlo.RunRead

@[expose] public section

noncomputable section

namespace Cert.ReferenceIdeal.Proof

open Idealize.ShloMosaic Idealize.ShloMosaic.StableHlo Idealize.SL.Sem Cert.ReferenceIdeal Cert.ReferenceIdeal.Gen Cert.Proof

variable {F : FTy → Type} [FloatOps F]

/-- The number of every element of the table. -/
def numbers : IVec S128x100001 32 := fun j => BitVec.ofNat 32 ((j 0).val * 100001 + (j 1).val)

/-- The element numbers as the program computes them, in 64-bit words. -/
def wide : IVec S128x100001 64 :=
  addi (muli (constantI S128x100001 64 100001#64) (iotaInDim S128x100001 64 0))
    (muli (constantI S128x100001 64 1#64) (iotaInDim S128x100001 64 1))

theorem wide_eq : addi (muli (constantI S128x100001 64 100001#64) (iotaInDim S128x100001 64 0))
    (muli (constantI S128x100001 64 1#64) (iotaInDim S128x100001 64 1)) = wide := rfl

theorem wide_toNat (j : S128x100001.Idx) : (wide j).toNat = (j 0).val * 100001 + (j 1).val := by
  have h0 : (j 0).val < 128 := (j 0).isLt
  have h1 : (j 1).val < 100001 := (j 1).isLt
  show (100001#64 * BitVec.ofNat 64 (j 0).val + 1#64 * BitVec.ofNat 64 (j 1).val).toNat = _
  simp only [BitVec.toNat_add, BitVec.toNat_mul, BitVec.toNat_ofNat]
  omega

/-- Their lower halves, -/
theorem wide_low (h : 32 < 64) : trunci 32 wide h = numbers := by
  funext j
  apply BitVec.eq_of_toNat_eq
  show ((wide j).setWidth 32).toNat = _
  rw [BitVec.toNat_setWidth, wide_toNat, numbers, BitVec.toNat_ofNat]

/-- and their upper halves, which are zero. -/
theorem wide_high (h : 32 < 64) :
    trunci 32 (Host.shrui wide (constantI S128x100001 64 32#64)) h = constantI S128x100001 32 0#32 := by
  funext j
  have h0 : (j 0).val < 128 := (j 0).isLt
  have h1 : (j 1).val < 100001 := (j 1).isLt
  apply BitVec.eq_of_toNat_eq
  show ((wide j >>> 32#64).setWidth 32).toNat = 0
  rw [BitVec.toNat_setWidth, BitVec.ushiftRight_eq', BitVec.toNat_ushiftRight, wide_toNat]
  show ((j 0).val * 100001 + (j 1).val) >>> 32 % 2 ^ 32 = 0
  rw [Nat.shiftRight_eq_div_pow, Nat.div_eq_of_lt (by omega)]

/-- The upper half of the number 42. -/
theorem key_high : Host.shrui (constantI S_ 32 42#32) (constantI S_ 32 32#32) = constantI S_ 32 0#32 := by
  funext j; rfl
/-- The lower half. -/
theorem key_low : andi (constantI S_ 32 42#32) (constantI S_ 32 4294967295#32) = constantI S_ 32 42#32 := by
  funext j; show 42#32 &&& 4294967295#32 = 42#32; decide

/-- Two one-word vectors side by side. -/
def beside (a b : IVec S1 32) : IVec S2 32 := concatenate S2 0 [⟨S1, a⟩, ⟨S1, b⟩] concatenates_S1_S1_S2_d0

theorem beside_eq (a b : IVec S1 32) (h : Shape.Concatenates [S1, S1] S2 0) :
    concatenate S2 0 [⟨S1, a⟩, ⟨S1, b⟩] h = beside a b := rfl

/-- The two key words side by side. -/
def keyPair : IVec S2 32 := beside (constantI S1 32 0#32) (constantI S1 32 42#32)

theorem keyPair_eq : beside (constantI S1 32 0#32) (constantI S1 32 42#32) = keyPair := rfl

/-- The first of them, -/
theorem key_fst : shapeCast S_ (extractStridedSlice S1 ![0] keyPair slices_S2_S1_0) shapeCasts_S1_S_ = constantI S_ 32 0#32 := by
  funext j
  obtain rfl : j = fun a => a.elim0 := funext fun a => a.elim0
  rfl
/-- and the second. -/
theorem key_snd : shapeCast S_ (extractStridedSlice S1 ![1] keyPair slices_S2_S1_1) shapeCasts_S1_S_ = constantI S_ 32 42#32 := by
  funext j
  obtain rfl : j = fun a => a.elim0 := funext fun a => a.elim0
  rfl

end Cert.ReferenceIdeal.Proof

end
-- ==== Proof.RefLine.lean ====
/-
  The reference as a line of host operations: its functions' bodies put in place of their calls, every operation after the
  one before it.
-/
module

public import proofs.«01_k».proof.Proof.Gen.ReferenceIdeal
public import proofs.«01_k».proof.Proof.RefSteps
public import Idealize.ShloMosaic.Lib.StableHlo.RunHlo
public import Idealize.ShloMosaic.Lib.StableHlo.RunRead

@[expose] public section

noncomputable section

namespace Cert.ReferenceIdeal.Proof

open Idealize.ShloMosaic Idealize.ShloMosaic.StableHlo Idealize.SL.Sem Cert.ReferenceIdeal Cert.ReferenceIdeal.Gen Cert.Proof

variable {F : FTy → Type} [FloatOps F]

/-- A program of one operation. -/
theorem IsSeq.one {op : HloOp τ sig (Elt F)} :
    IsSeq (nD := nD) (Λ := (Pipeline.Sig Λ₀ (Fin 0) fun p => (pcfgs (F := F) p).Adm)) (hlo rfl op fun _ => .ret (⟨⟩ : PUnit)) [op] := rfl

set_option maxHeartbeats 4000000 in
set_option maxRecDepth 100000 in
/-- The operations of the reference, with the fact that it runs them in order. -/
def mainSeq (d : Dev nD) : {l : List (HloOp τ sig (Elt F)) // IsSeq (main (F := F) d) l} := by
  apply Subtype.mk
  · simp only [main, fn_gumbel.body, fn_uniform.body, fn_argmax.body, fn_threefry2x32.body, fn_threefry2x32.body_part0,
      fn_threefry2x32.body_part1, fn_threefry2x32.body_part2, fn_threefry2x32.body_part3, bind_assoc, pure_bind]
    repeat (first | exact IsSeq.nil | exact IsSeq.one | apply IsSeq.cons)

end Cert.ReferenceIdeal.Proof

end
-- ==== Proof.RefRun.lean ====
/-
  The reference's run: what its line of operations leaves in the result buffer (`refOut`), read off operation by
  operation, every step of the random word recognised on the way.
-/
module

public import proofs.«01_k».proof.Proof.Gen.ReferenceIdeal
public import proofs.«01_k».proof.Proof.RefLine
public import Idealize.ShloMosaic.Lib.StableHlo.RunHlo
public import Idealize.ShloMosaic.Lib.StableHlo.RunRead
public import Idealize.ShloMosaic.Lib.Quiescent

@[expose] public section

noncomputable section

namespace Cert.ReferenceIdeal.Proof

open Idealize.ShloMosaic Idealize.ShloMosaic.StableHlo Idealize.SL.Sem Cert.ReferenceIdeal Cert.ReferenceIdeal.Gen Cert.Proof

variable {F : FTy → Type} [FloatOps F]

/-- The first key word's reshape, read at its result, -/
theorem reshape_fst (he hn) (V : Valuation τ sig (Elt F)) :
    (TRef.reshape (τ := τ) (Val := Elt F) (Tx := ⟨S1, .i32⟩) (Ty := ⟨S_, .i32⟩) (.of main_call0_call0_v3)
      (.of main_call0_call0_v4) he hn).result V
      (no_index (Proc.devRef .tc main_call0_call0_v4))
      = (shapeCast (α := BitVec 32) S_ (V (Proc.devRef .tc main_call0_call0_v3) : IVec S1 32) shapeCasts_S1_S_ : IVec S_ 32) :=
  reshape_result _ _ _ _ _ _ V
/-- and the second's. -/
theorem reshape_snd (he hn) (V : Valuation τ sig (Elt F)) :
    (TRef.reshape (τ := τ) (Val := Elt F) (Tx := ⟨S1, .i32⟩) (Ty := ⟨S_, .i32⟩) (.of main_call0_call0_v5)
      (.of main_call0_call0_v6) he hn).result V
      (no_index (Proc.devRef .tc main_call0_call0_v6))
      = (shapeCast (α := BitVec 32) S_ (V (Proc.devRef .tc main_call0_call0_v5) : IVec S1 32) shapeCasts_S1_S_ : IVec S_ 32) :=
  reshape_result _ _ _ _ _ _ V

/-- The key's second word added to the elements' numbers. -/
theorem seed_numbers : addi numbers (constantI S128x100001 32 42#32) = seed numbers := rfl

/-- The reference's float of every element from the element's draw: a uniform float from the 23 bits, scaled and shifted so
    that it is never zero, and twice the negative of a logarithm. Zeros, the logits, are added. -/
def gum (x : IVec S128x100001 32) : FVec F S128x100001 .f32 :=
  addf
    (Host.negf (Host.log (Host.negf (Host.log
      (maximumf
        (broadcastInDim S128x100001 ![0, 1] bcast_S1x1_S128x100001_0_1
          (broadcastInDim S1x1 ![] bcast_S_S1x1 (constant S_ .f32 8388608#32)))
        (addf
          (mulf
            (subf (bitcastToFloat .f32 (ori x (constantI S128x100001 32 1065353216#32)))
              (broadcastInDim S128x100001 ![] bcast_S_S128x100001 (constant S_ .f32 1065353216#32)))
            (broadcastInDim S128x100001 ![0, 1] bcast_S1x1_S128x100001_0_1
              (subf (broadcastInDim S1x1 ![] bcast_S_S1x1 (constant S_ .f32 1065353216#32))
                (broadcastInDim S1x1 ![] bcast_S_S1x1 (constant S_ .f32 8388608#32)))))
          (broadcastInDim S128x100001 ![0, 1] bcast_S1x1_S128x100001_0_1
            (broadcastInDim S1x1 ![] bcast_S_S1x1 (constant S_ .f32 8388608#32)))))))))
    (broadcastInDim S128x100001 ![] bcast_S_S128x100001 (constant S_ .f32 0#32))

/-- The reference's result: every row's first column of the largest float, as a float. -/
def refOut : FVec F S128 .f32 :=
  sitofp .f32 fun j =>
    (Host.argReduce reducer_argmax_f32_i32 (gum (F := F) (drawV numbers)) (iotaInDim S128x100001 32 1)
      (constant S_ .f32 4286578688#32) (constantI S_ 32 0#32) reducesTo_S128x100001_S128_d1 h_S_ j).2

/-- After the line of operations the result buffer holds `refOut`. -/
theorem after_result (d : Dev nD) (V : Valuation τ sig (Elt F)) :
    after (mainSeq (F := F) d).1 V (Proc.devRef .tc main_v11) = refOut (F := F) := by
  simp only [readAfter, readUpto, nullary_result', unary_result', binary_result', reshape_fst, reshape_snd,
    quaternary_result', TRef.toBuf, TRef.ofBuf, cast_cast, cast_eq, id_eq, splat, key_high, key_low, beside_eq, keyPair_eq, key_fst, key_snd,
    wide_eq, wide_low, wide_high, zero_zero, key_third, seed_numbers, host_first_A, host_first_B, round_A, host_round_B,
    host_key_A, host_key_B, host_join, Nat.reduceAdd, lft, rgt, keyA, keyB, keyN, Nat.reduceMod, Nat.reduceBEq]
  rfl

/-- The argument is not written. -/
theorem after_arg (d : Dev nD) (V : Valuation τ sig (Elt F)) :
    after (mainSeq (F := F) d).1 V (Proc.devRef .tc main_arg0) = V (Proc.devRef .tc main_arg0) := by
  simp only [readAfter]

/-- The operations touch the TensorCore's buffers only, -/
theorem bufs_sub (d : Dev nD) : (mainSeq (F := F) d).1.Forall fun op => op.bufs ⊆ tcRefs τ sig := by
  unfold mainSeq
  simp

/-- and take no fresh contents. -/
theorem fresh_none (d : Dev nD) : ∀ op ∈ (mainSeq (F := F) d).1, op.fresh = ∅ := by
  unfold mainSeq
  intro _ h
  (repeat (cases h with | head => rfl | tail _ h => ?_))
  exact nomatch h

/-- The reference runs: its result buffer ends at `refOut`, its argument unchanged, every counter at zero. -/
theorem run_ref (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD, r.2.mem ((c.tc : Thread nD τ).loc main_v11) = refOut (F := F)
        ∧ r.2.mem ((c.tc : Thread nD τ).loc main_arg0) = m ((c.tc : Thread nD τ).loc main_arg0))
      ∧ r.2.sem = fun _ => 0 := by
  refine θ_run_mono (run_seq (by decide) (by decide) (defs (F := F)) (main (F := F)) (fun d => (mainSeq (F := F) d).1)
    (fun d => (mainSeq (F := F) d).2) bufs_sub m ρ fresh_none) fun r h => ⟨fun c => ⟨?_, ?_⟩, sem_eq_zero_of_no_sems rfl _⟩
  · exact (h c main_v11).trans (after_result c _)
  · exact (h c main_arg0).trans (after_arg c _)

end Cert.ReferenceIdeal.Proof

end
-- ==== Proof.RefPick.lean ====
/-
  The reference's result at the extended reals: its float of a draw is a real number that grows strictly with the draw, so
  the first column of a row's largest float is the first column of its largest draw.
-/
module

public import Idealize.ShloMosaic.PureOps.Ideal.Laws
public import proofs.«01_k».proof.Proof.Pick
public import proofs.«01_k».proof.Proof.RefRun

@[expose] public section

noncomputable section

namespace Cert.ReferenceIdeal.Proof

open Idealize.ShloMosaic Cert.ReferenceIdeal Cert.ReferenceIdeal.Gen Cert.Proof

/-! ## The float of a draw -/

/-- The least positive normal number. -/
def tinyR : ℝ := (2 : ℝ) ^ (-126 : ℤ)

theorem tiny_pos : 0 < tinyR := by unfold tinyR; positivity

theorem tiny_lt : tinyR < 1 := by
  unfold tinyR
  rw [zpow_neg]
  exact inv_lt_one_of_one_lt₀ (by norm_num)

theorem bits_tiny : Ideal.ofBits .f32 8388608#32 = ((tinyR : ℝ) : EReal) := by
  simp [Ideal.ofBits, Ideal.ieee, tinyR, -EReal.coe_mul]
  norm_num

theorem bits_one : Ideal.ofBits .f32 1065353216#32 = ((1 : ℝ) : EReal) := by
  simp [Ideal.ofBits, Ideal.ieee, -EReal.coe_mul]
  norm_num

theorem bits_bottom : Ideal.ofBits .f32 4286578688#32 = ⊥ := by
  simp [Ideal.ofBits, Ideal.ieee]

/-- A number of 23 bits under the exponent of one: one and that many `2 ^ 23`ths. -/
theorem bits_draw (v : BitVec 32) (hv : v.toNat < 8388608) :
    Ideal.ofBits .f32 (IntOp.ori v 1065353216#32) = (((2 ^ 23 + v.toNat : ℕ) * (2 : ℝ) ^ (-23 : ℤ) : ℝ) : EReal) := by
  have hn : (IntOp.ori v 1065353216#32).toNat = 1065353216 + v.toNat := by
    show (v ||| 1065353216#32).toNat = _
    rw [BitVec.toNat_or, Nat.or_comm]
    exact (Nat.two_pow_add_eq_or_of_lt (i := 23) (by omega) 127).symm
  generalize IntOp.ori v 1065353216#32 = b at hn
  have hx : (b.extractLsb' 23 8).toNat = 127 := by
    rw [BitVec.extractLsb'_toNat, hn, Nat.shiftRight_eq_div_pow]
    omega
  have hf : (b.extractLsb' 0 23).toNat = v.toNat := by
    rw [BitVec.extractLsb'_toNat, hn, Nat.shiftRight_eq_div_pow]
    omega
  have hs : (b.extractLsb' 31 1 == 1#1) = false := by
    rw [beq_eq_false_iff_ne]
    intro h
    have := congrArg BitVec.toNat h
    rw [BitVec.extractLsb'_toNat, hn, Nat.shiftRight_eq_div_pow, show (1#1 : BitVec 1).toNat = 1 from rfl] at this
    omega
  show Ideal.ieee 8 23 b = _
  simp only [Ideal.ieee, hx, hf, hs, Nat.reduceAdd]
  norm_num

/-- The reference's float of one draw. -/
def gumOne (v : BitVec 32) : EReal :=
  -Ideal.log (-Ideal.log (max (Ideal.ofBits .f32 8388608#32)
    ((Ideal.ofBits .f32 (IntOp.ori v 1065353216#32) - Ideal.ofBits .f32 1065353216#32)
      * (Ideal.ofBits .f32 1065353216#32 - Ideal.ofBits .f32 8388608#32) + Ideal.ofBits .f32 8388608#32)))
    + Ideal.ofBits .f32 0#32

theorem gum_at (x : IVec S128x100001 32) (j : S128x100001.Idx) : gum (F := Ideal) x j = gumOne (x j) := rfl

/-- The uniform number of draw `k`, -/
def uni (k : ℕ) : ℝ := k * (2 : ℝ) ^ (-23 : ℤ) * (1 - tinyR) + tinyR

theorem uni_pos (k : ℕ) : 0 < uni k := by
  have h1 := tiny_pos
  have h2 := tiny_lt
  have h3 : 0 ≤ (k : ℝ) * (2 : ℝ) ^ (-23 : ℤ) * (1 - tinyR) := mul_nonneg (by positivity) (by linarith)
  unfold uni
  linarith

theorem uni_ge (k : ℕ) : tinyR ≤ uni k := by
  have h2 := tiny_lt
  have h3 : 0 ≤ (k : ℝ) * (2 : ℝ) ^ (-23 : ℤ) * (1 - tinyR) := mul_nonneg (by positivity) (by linarith)
  unfold uni
  linarith

theorem uni_lt {k k' : ℕ} (h : k < k') : uni k < uni k' := by
  have h2 := tiny_lt
  have h1 : (k : ℝ) < k' := by exact_mod_cast h
  have h3 : (k : ℝ) * (2 : ℝ) ^ (-23 : ℤ) < k' * (2 : ℝ) ^ (-23 : ℤ) := mul_lt_mul_of_pos_right h1 (by positivity)
  have h4 := mul_lt_mul_of_pos_right h3 (show 0 < 1 - tinyR by linarith)
  unfold uni
  linarith

theorem uni_lt_one {k : ℕ} (h : k < 8388608) : uni k < 1 := by
  refine (uni_lt h).trans_eq ?_
  unfold uni
  norm_num

/-- and the float as a real number. -/
def gumR (k : ℕ) : ℝ := -Real.log (-Real.log (uni k))

theorem log_neg_of {k : ℕ} (h : k < 8388608) : 0 < -Real.log (uni k) := by
  have := Real.log_neg (uni_pos k) (uni_lt_one h)
  linarith

/-- A larger draw has a larger float. -/
theorem gumR_lt {k k' : ℕ} (h : k < k') (h' : k' < 8388608) : gumR k < gumR k' := by
  have h1 := Real.log_lt_log (uni_pos k) (uni_lt h)
  have h2 := Real.log_lt_log (log_neg_of h') (show -Real.log (uni k') < -Real.log (uni k) by linarith)
  unfold gumR
  linarith

theorem log_pos_real {r : ℝ} (h : 0 < r) : Ideal.log ((r : ℝ) : EReal) = ((Real.log r : ℝ) : EReal) := by
  show (if r ≤ 0 then (⊥ : EReal) else _) = _
  rw [if_neg (by linarith)]

/-- The float of a draw is that real number. -/
theorem gumOne_real (v : BitVec 32) (hv : v.toNat < 8388608) : gumOne v = ((gumR v.toNat : ℝ) : EReal) := by
  have hu : ((2 ^ 23 + v.toNat : ℕ) * (2 : ℝ) ^ (-23 : ℤ) - 1) * (1 - tinyR) + tinyR = uni v.toNat := by
    have h1 : (2 : ℝ) ^ (-23 : ℤ) * 2 ^ 23 = 1 := by norm_num
    unfold uni
    push_cast
    generalize (2 : ℝ) ^ (-23 : ℤ) = q at h1 ⊢
    linear_combination (1 - tinyR) * h1
  unfold gumOne
  rw [bits_draw v hv, bits_tiny, bits_one, Ideal.ofBits_zero_f32, add_zero, ← EReal.coe_sub, ← EReal.coe_sub, ← EReal.coe_mul,
    ← EReal.coe_add, hu, max_eq_right (by exact_mod_cast uni_ge _), log_pos_real (uni_pos _), ← EReal.coe_neg,
    log_pos_real (log_neg_of hv), ← EReal.coe_neg]
  rfl

theorem gumOne_lt_iff {v v' : BitVec 32} (h : v.toNat < 8388608) (h' : v'.toNat < 8388608) :
    gumOne v < gumOne v' ↔ v.toNat < v'.toNat := by
  rw [gumOne_real v h, gumOne_real v' h', EReal.coe_lt_coe_iff]
  refine ⟨fun hl => ?_, fun hl => gumR_lt hl h'⟩
  by_contra hn
  rcases Nat.lt_or_eq_of_le (Nat.le_of_not_lt hn) with hlt | he
  · exact absurd (gumR_lt hlt h) (not_lt.2 hl.le)
  · rw [he] at hl
    exact lt_irrefl _ hl

theorem gumOne_eq_iff {v v' : BitVec 32} (h : v.toNat < 8388608) (h' : v'.toNat < 8388608) :
    gumOne v = gumOne v' ↔ v.toNat = v'.toNat := by
  have h1 := gumOne_lt_iff h h'
  have h2 := gumOne_lt_iff h' h
  constructor
  · intro he
    rw [he] at h1
    rw [he] at h2
    have := mt h1.2 (lt_irrefl _)
    have := mt h2.2 (lt_irrefl _)
    omega
  · intro he
    rw [BitVec.eq_of_toNat_eq he]

/-! ## The fold -/

/-- A column's float with its number. -/
def entry (f : ℕ → BitVec 32) (c : ℕ) : EReal × BitVec 32 := (gumOne (f c), BitVec.ofNat 32 c)

/-- The fold's step at two entries keeps the larger float's, and of two equal ones the earlier column's. -/
theorem step_entry {f : ℕ → BitVec 32} (hf : ∀ c, (f c).toNat < 8388608) {k c : ℕ} (hk : k < 100001) (hc : c < 100001) :
    reducer_argmax_f32_i32 (F := Ideal) (entry f k) (entry f c)
      = entry f (if (f k).toNat < (f c).toNat ∨ ((f c).toNat = (f k).toNat ∧ c < k) then c else k) := by
  have hl := gumOne_lt_iff (hf c) (hf k)
  have he := gumOne_eq_iff (hf k) (hf c)
  have hs : (BitVec.ofNat 32 k).slt (BitVec.ofNat 32 c) = decide (k < c) := by
    rw [slt_small (by rw [toNat_col (by omega)]; omega) (by rw [toNat_col (by omega)]; omega), toNat_col (by omega), toNat_col (by omega)]
  show (Scalar.select (BitVec.ofBool (decide (gumOne (f c) < gumOne (f k))) ||| BitVec.ofBool (decide (gumOne (f k) ≠ gumOne (f k))))
      (gumOne (f k)) (gumOne (f c)),
    Scalar.select (BitVec.ofBool (decide (gumOne (f c) < gumOne (f k))) ||| BitVec.ofBool (decide (gumOne (f k) ≠ gumOne (f k)))
        ||| (BitVec.ofBool (decide (gumOne (f k) = gumOne (f c))) &&& BitVec.ofBool ((BitVec.ofNat 32 k).slt (BitVec.ofNat 32 c))))
      (BitVec.ofNat 32 k) (BitVec.ofNat 32 c)) = _
  rw [hs]
  simp only [hl, he, ne_eq, not_true_eq_false, decide_false]
  rcases Nat.lt_trichotomy (f k).toNat (f c).toNat with h | h | h
  · rw [if_pos (.inl h)]
    simp only [show ¬ (f c).toNat < (f k).toNat by omega, show ¬ (f k).toNat = (f c).toNat by omega, decide_false]
    generalize decide (k < c) = b
    cases b <;> rfl
  · have hg := he.2 h
    by_cases hkc : k < c
    · rw [if_neg (by omega)]
      simp only [h, hkc, lt_irrefl, decide_false, decide_true]
      exact Prod.ext hg.symm rfl
    · by_cases hck : c < k
      · rw [if_pos (.inr ⟨h.symm, hck⟩)]
        simp only [h, hkc, lt_irrefl, decide_false, decide_true]
        rfl
      · obtain rfl : k = c := by omega
        rw [ite_self]
        simp only [lt_irrefl, decide_false, decide_true]
        rfl
  · rw [if_neg (by omega)]
    simp only [h, show ¬ (f k).toNat = (f c).toNat by omega, decide_false, decide_true]
    generalize decide (k < c) = b
    cases b <;> rfl

/-- At the start and an entry, the entry. -/
theorem step_start {f : ℕ → BitVec 32} (hf : ∀ c, (f c).toNat < 8388608) (c : ℕ) :
    reducer_argmax_f32_i32 (F := Ideal) ((⊥ : EReal), 0#32) (entry f c) = entry f c := by
  have h1 : ¬ gumOne (f c) < ⊥ := not_lt_bot
  have h2 : ¬ (⊥ : EReal) = gumOne (f c) := by
    rw [gumOne_real _ (hf c)]
    exact EReal.bot_ne_coe _
  show (Scalar.select (BitVec.ofBool (decide (gumOne (f c) < ⊥)) ||| BitVec.ofBool (decide ((⊥ : EReal) ≠ ⊥)))
      (⊥ : EReal) (gumOne (f c)),
    Scalar.select (BitVec.ofBool (decide (gumOne (f c) < ⊥)) ||| BitVec.ofBool (decide ((⊥ : EReal) ≠ ⊥))
        ||| (BitVec.ofBool (decide ((⊥ : EReal) = gumOne (f c))) &&& BitVec.ofBool ((0#32).slt (BitVec.ofNat 32 c))))
      (0#32) (BitVec.ofNat 32 c)) = _
  simp only [h1, h2, ne_eq, not_true_eq_false, decide_false]
  generalize (0#32).slt (BitVec.ofNat 32 c) = b
  cases b <;> rfl

/-- The fold from a set's best over more columns is the best of all. -/
theorem fold_entry {f : ℕ → BitVec 32} (hf : ∀ c, (f c).toNat < 8388608) (L : List ℕ) (hL : ∀ c ∈ L, c < 100001)
    (S : ℕ → Prop) (hS : ∀ c, S c → c < 100001) (k : ℕ) (hk : Top S f k) :
    ∃ k', Top (fun c => S c ∨ c ∈ L) f k'
      ∧ (L.map (entry f)).foldl (reducer_argmax_f32_i32 (F := Ideal)) (entry f k) = entry f k' := by
  induction L generalizing S k with
  | nil => exact ⟨k, hk.congr fun c => by simp, rfl⟩
  | cons a L ih =>
    have ha := hL a (by simp)
    obtain ⟨k', h1, h2⟩ := ih (fun c hc => hL c (by simp [hc])) (fun c => S c ∨ c = a)
      (fun c hc => hc.elim (hS c) fun he => he ▸ ha) _ (hk.union (fun _ => Iff.rfl) (Top.one f a))
    refine ⟨k', h1.congr fun c => by rw [List.mem_cons, or_assoc], ?_⟩
    rw [List.map_cons, List.foldl_cons, step_entry hf (hS k hk.1) ha]
    exact h2

/-- The fold over some columns, at least one, is the best of them. -/
theorem fold_start {f : ℕ → BitVec 32} (hf : ∀ c, (f c).toNat < 8388608) (L : List ℕ) (hL : ∀ c ∈ L, c < 100001) (h0 : L ≠ []) :
    ∃ k, Top (fun c => c ∈ L) f k
      ∧ (L.map (entry f)).foldl (reducer_argmax_f32_i32 (F := Ideal)) ((⊥ : EReal), 0#32) = entry f k := by
  cases L with
  | nil => exact absurd rfl h0
  | cons a L =>
    have ha := hL a (by simp)
    obtain ⟨k, h1, h2⟩ := fold_entry hf L (fun c hc => hL c (by simp [hc])) (fun c => c = a) (fun c hc => hc ▸ ha) a (Top.one f a)
    refine ⟨k, h1.congr fun c => by rw [List.mem_cons], ?_⟩
    rw [List.map_cons, List.foldl_cons, step_start hf]
    exact h2

/-! ## The result -/

/-- A row's draws. -/
def rowR (r c : ℕ) : BitVec 32 := draw (BitVec.ofNat 32 (r * 100001 + c))

theorem drop_iff (i : S128x100001.Idx) (j : S128.Idx) :
    reducesTo_S128x100001_S128_d1.drop i = j ↔ (i 0).val = (j 0).val := by
  have h := reducesTo_S128x100001_S128_d1.drop_apply_val_of_eq i 0 0 (by decide) (by decide)
  constructor
  · intro he
    rw [← h, he]
  · intro he
    funext a
    obtain rfl : a = 0 := Subsingleton.elim (α := Fin 1) _ _
    exact Fin.ext (h.trans he)

/-- What a row's fold goes over: an entry for every column, in some order. -/
theorem fiber_cols (x : S128x100001.Idx → EReal) (y : IVec S128x100001 32) (p : ℕ → EReal × BitVec 32) (j : S128.Idx)
    (hx : ∀ i : S128x100001.Idx, (i 0).val = (j 0).val → (x i, y i) = p (i 1).val) :
    ∃ L : List ℕ, (∀ c, c ∈ L ↔ c < 100001)
      ∧ Host.argReduceFiber x y reducesTo_S128x100001_S128_d1 j = L.map p := by
  refine ⟨((List.finRange S128x100001.numel).filter fun n =>
    reducesTo_S128x100001_S128_d1.drop (S128x100001.rowMajor.symm n) = j).map fun n => (S128x100001.rowMajor.symm n 1).val,
    fun c => ?_, ?_⟩
  · rw [List.mem_map]
    constructor
    · rintro ⟨n, _, rfl⟩
      exact (S128x100001.rowMajor.symm n 1).isLt
    · intro hc
      let i : S128x100001.Idx := fun | ⟨0, _⟩ => (j 0 : Fin 128) | ⟨1, _⟩ => (⟨c, hc⟩ : Fin 100001)
      have hi : (i 0).val = (j 0).val := rfl
      refine ⟨S128x100001.rowMajor i, ?_, ?_⟩
      · rw [List.mem_filter, Equiv.symm_apply_apply, decide_eq_true_eq, drop_iff]
        exact ⟨List.mem_finRange _, hi⟩
      · rw [Equiv.symm_apply_apply]
  · rw [Host.argReduceFiber, List.map_map]
    refine List.map_congr_left fun n hn => ?_
    rw [List.mem_filter, decide_eq_true_eq, drop_iff] at hn
    exact hx _ hn.2

/-- An element's float and column, as an entry of its row. -/
theorem gum_entry (j : S128.Idx) (i : S128x100001.Idx) (h : (i 0).val = (j 0).val) :
    (gum (F := Ideal) (drawV numbers) i, iotaInDim S128x100001 32 1 i) = entry (rowR (j 0).val) (i 1).val := by
  rw [gum_at, entry, rowR, ← h]
  rfl

/-- The start of the fold. -/
theorem start_pair :
    (constant (F := Ideal) S_ .f32 4286578688#32 (Shape.Idx.first h_S_), constantI S_ 32 0#32 (Shape.Idx.first h_S_))
      = ((⊥ : EReal), 0#32) := Prod.ext bits_bottom rfl

/-- The column the reference's fold gives. -/
theorem arg_top (j : S128.Idx) :
    ∃ k, Top (fun k => k < 100001) (rowR (j 0).val) k
      ∧ (Host.argReduce reducer_argmax_f32_i32 (gum (F := Ideal) (drawV numbers)) (iotaInDim S128x100001 32 1)
          (constant S_ .f32 4286578688#32) (constantI S_ 32 0#32) reducesTo_S128x100001_S128_d1 h_S_ j).2 = BitVec.ofNat 32 k := by
  obtain ⟨L, hmem, hfib⟩ := fiber_cols (gum (F := Ideal) (drawV numbers)) (iotaInDim S128x100001 32 1) (entry (rowR (j 0).val)) j
    (gum_entry j)
  obtain ⟨k, hk, he⟩ := fold_start (f := rowR (j 0).val) (fun c => draw_lt _) L (fun c hc => (hmem c).1 hc)
    (fun h => by have := (hmem 0).2 (by omega); rw [h] at this; exact List.not_mem_nil this)
  refine ⟨k, hk.congr hmem, ?_⟩
  rw [Ideal.argReduce_eq_reduce2, Host.reduce2_eq_foldl_fiber, hfib, start_pair, he]
  rfl

/-- Every row of the reference's result is the column of the first largest draw of the row. -/
theorem refOut_top (j : S128.Idx) :
    ∃ k, Top (fun k => k < 100001) (rowR (j 0).val) k
      ∧ refOut (F := Ideal) j = FloatOps.sitofp (F := Ideal) .f32 (BitVec.ofNat 32 k) := by
  obtain ⟨k, hk, he⟩ := arg_top j
  exact ⟨k, hk, congrArg (FloatOps.sitofp (F := Ideal) .f32) he⟩

end Cert.ReferenceIdeal.Proof

end
-- ==== Proof.lean ====
/-
  The certificate: the kernel at its bits, the kernel at the extended reals and the reference at the extended reals run to
  their end with their arguments unchanged and every semaphore counter at zero, the kernel at the extended reals is the
  kernel's own text read there, and its result is the reference's.
-/
module

public import proofs.«01_k».proof.Defs
public import proofs.«01_k».proof.Proof.LaunchBits
public import proofs.«01_k».proof.Proof.KernelPick
public import proofs.«01_k».proof.Proof.RefPick

@[expose] public section

noncomputable section

namespace Cert.Proof

open Idealize.ShloMosaic Idealize.SL.Sem

/-- At the extended reals the kernel's result and the reference's are one vector: in every row both are the number of the
    column of the row's first largest draw. -/
theorem results_eq : Cert.KernelIdeal.Proof.outK (F := Ideal) = Cert.ReferenceIdeal.Proof.refOut (F := Ideal) := by
  funext x
  obtain ⟨k, hk, he⟩ := Cert.KernelIdeal.Proof.outK_top x
  obtain ⟨k', hk', he'⟩ := Cert.ReferenceIdeal.Proof.refOut_top x
  obtain rfl : k = k' := Top.unique hk hk'
  exact he.trans he'.symm

/-- The kernel at its bits: it ends, its argument unchanged, every counter at zero. -/
theorem frame_bits : Cert.quiescent_Kernel (hKernel := Cert.Kernel.Gen.facts) := fun m ρ _ =>
  θ_run_mono (Cert.Kernel.Proof.run_main (F := Bits) m ρ) fun _ h => ⟨fun c => (h.1 c).2, h.2⟩

/-- The kernel at the extended reals, likewise. -/
theorem frame_ideal : Cert.quiescent_KernelIdeal (hKernelIdeal := Cert.KernelIdeal.Gen.facts) := fun m ρ _ =>
  θ_run_mono (Cert.KernelIdeal.Proof.run_main (F := Ideal) m ρ) fun _ h => ⟨fun c => (h.1 c).2, h.2⟩

/-- The reference at the extended reals, likewise. -/
theorem frame_reference : Cert.quiescent_ReferenceIdeal (hReferenceIdeal := Cert.ReferenceIdeal.Gen.facts) := fun m ρ _ =>
  θ_run_mono (Cert.ReferenceIdeal.Proof.run_ref (F := Ideal) m ρ) fun _ h => ⟨fun c => (h.1 c).2, h.2⟩

/-- From memories that agree on the argument, kernel and reference end with the same result at the extended reals. -/
theorem same_result : Cert.algebraic_KernelIdeal_ReferenceIdeal (hKernelIdeal := Cert.KernelIdeal.Gen.facts)
    (hReferenceIdeal := Cert.ReferenceIdeal.Gen.facts) := fun m ρ m' ρ' _ _ =>
  ⟨fun _ => Cert.KernelIdeal.Proof.outK (F := Ideal),
    θ_run_mono (Cert.KernelIdeal.Proof.run_main (F := Ideal) m ρ) fun _ h => h.1,
    θ_run_mono (Cert.ReferenceIdeal.Proof.run_ref (F := Ideal) m' ρ') fun _ h c =>
      ⟨(h.1 c).1.trans results_eq.symm, (h.1 c).2⟩⟩

theorem claim : Cert.Claim :=
  ⟨Cert.Kernel.Gen.facts, Cert.KernelIdeal.Gen.facts, Cert.ReferenceIdeal.Gen.facts, frame_bits, frame_ideal, frame_reference,
    trivial, same_result⟩

end Cert.Proof

end
